-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_v187) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x8x256x256 : Shape := ⟨4, ![32, 8, 256, 256]⟩
abbrev S32 : Shape := ⟨1, ![32]⟩
abbrev S32x8x32768 : Shape := ⟨3, ![32, 8, 32768]⟩
abbrev S16x8 : Shape := ⟨2, ![16, 8]⟩
abbrev S256x256 : Shape := ⟨2, ![256, 256]⟩
abbrev S32x8x256x128 : Shape := ⟨4, ![32, 8, 256, 128]⟩
abbrev S16x1x1x2 : Shape := ⟨4, ![16, 1, 1, 2]⟩
abbrev S16x8x1x1 : Shape := ⟨4, ![16, 8, 1, 1]⟩
abbrev S16x8x2x8x128 : Shape := ⟨5, ![16, 8, 2, 8, 128]⟩
abbrev S2x1x256x256 : Shape := ⟨4, ![2, 1, 256, 256]⟩
abbrev S2x1x256x128 : Shape := ⟨4, ![2, 1, 256, 128]⟩
abbrev S1x1x1x2 : Shape := ⟨4, ![1, 1, 1, 2]⟩
abbrev S1x1x1x1 : Shape := ⟨4, ![1, 1, 1, 1]⟩
abbrev S1x1x2x8x128 : Shape := ⟨5, ![1, 1, 2, 8, 128]⟩
abbrev S256x128 : Shape := ⟨2, ![256, 128]⟩
abbrev S1x1x256x256 : Shape := ⟨4, ![1, 1, 256, 256]⟩
abbrev S1x1x256x128 : Shape := ⟨4, ![1, 1, 256, 128]⟩
abbrev S1x256x128 : Shape := ⟨3, ![1, 256, 128]⟩
abbrev S1 : Shape := ⟨1, ![1]⟩
abbrev S1x1x1 : Shape := ⟨3, ![1, 1, 1]⟩
abbrev S512x256 : Shape := ⟨2, ![512, 256]⟩
abbrev S8x128 : Shape := ⟨2, ![8, 128]⟩
abbrev S1x1x1x8x128 : Shape := ⟨5, ![1, 1, 1, 8, 128]⟩
abbrev S16x8x2x1x1 : Shape := ⟨5, ![16, 8, 2, 1, 1]⟩
abbrev S16x8x2 : Shape := ⟨3, ![16, 8, 2]⟩
abbrev S16x2x8 : Shape := ⟨3, ![16, 2, 8]⟩
abbrev S32x8 : Shape := ⟨2, ![32, 8]⟩

abbrev nBuf : Space → Nat
  | .hbm => 21
  | .vmem => 20
  | .smem => 0
  | _ => 0

abbrev bufTy : (tb : Table) → Fin (tcTables nBuf tb) → BufTy
  | .hbm, ⟨0, _⟩ => ⟨S32x8x256x256, .f32⟩
  | .hbm, ⟨1, _⟩ => ⟨S32, .f32⟩
  | .hbm, ⟨2, _⟩ => ⟨S32x8x32768, .f32⟩
  | .hbm, ⟨3, _⟩ => ⟨S32x8x32768, .f32⟩
  | .hbm, ⟨4, _⟩ => ⟨S32x8x32768, .f32⟩
  | .hbm, ⟨5, _⟩ => ⟨S32x8x32768, .f32⟩
  | .hbm, ⟨6, _⟩ => ⟨S16x8, .f32⟩
  | .hbm, ⟨7, _⟩ => ⟨S256x256, .f32⟩
  | .hbm, ⟨8, _⟩ => ⟨S256x256, .f32⟩
  | .hbm, ⟨9, _⟩ => ⟨S32x8x256x128, .f32⟩
  | .hbm, ⟨10, _⟩ => ⟨S32x8x256x128, .f32⟩
  | .hbm, ⟨11, _⟩ => ⟨S32x8x256x128, .f32⟩
  | .hbm, ⟨12, _⟩ => ⟨S32x8x256x128, .f32⟩
  | .hbm, ⟨13, _⟩ => ⟨S16x1x1x2, .f32⟩
  | .hbm, ⟨14, _⟩ => ⟨S16x8x1x1, .f32⟩
  | .hbm, ⟨15, _⟩ => ⟨S32x8x256x256, .f32⟩
  | .hbm, ⟨16, _⟩ => ⟨S16x8x2x8x128, .f32⟩
  | .hbm, ⟨17, _⟩ => ⟨S16x8x2x1x1, .f32⟩
  | .hbm, ⟨18, _⟩ => ⟨S16x8x2, .f32⟩
  | .hbm, ⟨19, _⟩ => ⟨S16x2x8, .f32⟩
  | .hbm, ⟨20, _⟩ => ⟨S32x8, .f32⟩
  | .local _ .vmem, ⟨0, _⟩ => ⟨S2x1x256x256, .f32⟩
  | .local _ .vmem, ⟨1, _⟩ => ⟨S2x1x256x256, .f32⟩
  | .local _ .vmem, ⟨2, _⟩ => ⟨S2x1x256x128, .f32⟩
  | .local _ .vmem, ⟨3, _⟩ => ⟨S2x1x256x128, .f32⟩
  | .local _ .vmem, ⟨4, _⟩ => ⟨S2x1x256x128, .f32⟩
  | .local _ .vmem, ⟨5, _⟩ => ⟨S2x1x256x128, .f32⟩
  | .local _ .vmem, ⟨6, _⟩ => ⟨S2x1x256x128, .f32⟩
  | .local _ .vmem, ⟨7, _⟩ => ⟨S2x1x256x128, .f32⟩
  | .local _ .vmem, ⟨8, _⟩ => ⟨S2x1x256x128, .f32⟩
  | .local _ .vmem, ⟨9, _⟩ => ⟨S2x1x256x128, .f32⟩
  | .local _ .vmem, ⟨10, _⟩ => ⟨S1x1x1x2, .f32⟩
  | .local _ .vmem, ⟨11, _⟩ => ⟨S1x1x1x2, .f32⟩
  | .local _ .vmem, ⟨12, _⟩ => ⟨S1x1x1x1, .f32⟩
  | .local _ .vmem, ⟨13, _⟩ => ⟨S1x1x1x1, .f32⟩
  | .local _ .vmem, ⟨14, _⟩ => ⟨S256x256, .f32⟩
  | .local _ .vmem, ⟨15, _⟩ => ⟨S256x256, .f32⟩
  | .local _ .vmem, ⟨16, _⟩ => ⟨S2x1x256x256, .f32⟩
  | .local _ .vmem, ⟨17, _⟩ => ⟨S2x1x256x256, .f32⟩
  | .local _ .vmem, ⟨18, _⟩ => ⟨S1x1x2x8x128, .f32⟩
  | .local _ .vmem, ⟨19, _⟩ => ⟨S1x1x2x8x128, .f32⟩
  | _, _ => ⟨S32x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S2x1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S32x8x256x256 : Shape := ⟨4, ![32, 8, 256, 256]⟩
abbrev S32 : Shape := ⟨1, ![32]⟩
abbrev S32x8x32768 : Shape := ⟨3, ![32, 8, 32768]⟩
abbrev S16x8 : Shape := ⟨2, ![16, 8]⟩
abbrev S_ : Shape := ⟨0, ![]⟩
abbrev S32x8x65536 : Shape := ⟨3, ![32, 8, 65536]⟩
abbrev S32768 : Shape := ⟨1, ![32768]⟩
abbrev S32768x1 : Shape := ⟨2, ![32768, 1]⟩
abbrev S32768x4 : Shape := ⟨2, ![32768, 4]⟩
abbrev S1 : Shape := ⟨1, ![1]⟩
abbrev S1x1 : Shape := ⟨2, ![1, 1]⟩
abbrev S32768x4x1 : Shape := ⟨3, ![32768, 4, 1]⟩
abbrev S1x1x1 : Shape := ⟨3, ![1, 1, 1]⟩
abbrev S32x8x32768x4 : Shape := ⟨4, ![32, 8, 32768, 4]⟩
abbrev S32x8x32768x1 : Shape := ⟨4, ![32, 8, 32768, 1]⟩
abbrev S32x1x1 : Shape := ⟨3, ![32, 1, 1]⟩
abbrev S32x8x255x256 : Shape := ⟨4, ![32, 8, 255, 256]⟩
abbrev S32x8x1x256 : Shape := ⟨4, ![32, 8, 1, 256]⟩
abbrev S32x8x256x255 : Shape := ⟨4, ![32, 8, 256, 255]⟩
abbrev S32x8x256x1 : Shape := ⟨4, ![32, 8, 256, 1]⟩
abbrev S32x8 : Shape := ⟨2, ![32, 8]⟩
abbrev S16 : Shape := ⟨1, ![16]⟩
abbrev S16x1 : Shape := ⟨2, ![16, 1]⟩
abbrev S16x8x256x256 : Shape := ⟨4, ![16, 8, 256, 256]⟩
abbrev S16x8x1x1 : Shape := ⟨4, ![16, 8, 1, 1]⟩
abbrev S16x1x8x256x256 : Shape := ⟨5, ![16, 1, 8, 256, 256]⟩
abbrev S16x2x8x256x256 : Shape := ⟨5, ![16, 2, 8, 256, 256]⟩
abbrev S16x1x8 : Shape := ⟨3, ![16, 1, 8]⟩
abbrev S16x2x8 : Shape := ⟨3, ![16, 2, 8]⟩

abbrev nBuf : Space → Nat
  | .hbm => 612
  | .vmem => 0
  | .smem => 0
  | _ => 0

abbrev hbmTy0_0 (i : Nat) : BufTy := match i % 128 with
  | 0 => ⟨S32x8x256x256, .f32⟩
  | 1 => ⟨S32, .f32⟩
  | 2 => ⟨S32x8x32768, .f32⟩
  | 3 => ⟨S32x8x32768, .f32⟩
  | 4 => ⟨S32x8x32768, .f32⟩
  | 5 => ⟨S32x8x32768, .f32⟩
  | 6 => ⟨S16x8, .f32⟩
  | 7 => ⟨S_, .f32⟩
  | 8 => ⟨S32x8x256x256, .f32⟩
  | 9 => ⟨S32x8x256x256, .f32⟩
  | 10 => ⟨S32x8x65536, .f32⟩
  | 11 => ⟨S32768, .i32⟩
  | 12 => ⟨S_, .i32⟩
  | 13 => ⟨S_, .i32⟩
  | 14 => ⟨S32768, .i32⟩
  | 15 => ⟨S32768, .i32⟩
  | 16 => ⟨S32768, .i32⟩
  | 17 => ⟨S_, .i32⟩
  | 18 => ⟨S32768, .i32⟩
  | 19 => ⟨S32768, .i1⟩
  | 20 => ⟨S32768, .i32⟩
  | 21 => ⟨S32768, .i32⟩
  | 22 => ⟨S_, .i32⟩
  | 23 => ⟨S32768, .i32⟩
  | 24 => ⟨S32768, .i1⟩
  | 25 => ⟨S32768, .i1⟩
  | 26 => ⟨S_, .i32⟩
  | 27 => ⟨S32768, .i32⟩
  | 28 => ⟨S32768, .i32⟩
  | 29 => ⟨S32768, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S32768, .i32⟩
  | 37 => ⟨S32768, .i32⟩
  | 38 => ⟨S_, .i32⟩
  | 39 => ⟨S32768, .i32⟩
  | 40 => ⟨S32768, .i1⟩
  | 41 => ⟨S_, .i32⟩
  | 42 => ⟨S32768, .i32⟩
  | 43 => ⟨S32768, .i1⟩
  | 44 => ⟨S_, .i32⟩
  | 45 => ⟨S_, .i1⟩
  | 46 => ⟨S32768, .i1⟩
  | 47 => ⟨S32768, .i1⟩
  | 48 => ⟨S32768, .i1⟩
  | 49 => ⟨S32768, .i32⟩
  | 50 => ⟨S32768, .i32⟩
  | 51 => ⟨S32768, .i32⟩
  | 52 => ⟨S_, .i32⟩
  | 53 => ⟨S32768, .i32⟩
  | 54 => ⟨S32768, .i32⟩
  | 55 => ⟨S_, .i32⟩
  | 56 => ⟨S32768, .i32⟩
  | 57 => ⟨S32768, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S32768, .i32⟩
  | 65 => ⟨S32768, .i32⟩
  | 66 => ⟨S_, .i32⟩
  | 67 => ⟨S32768, .i32⟩
  | 68 => ⟨S32768, .i1⟩
  | 69 => ⟨S_, .i32⟩
  | 70 => ⟨S32768, .i32⟩
  | 71 => ⟨S32768, .i1⟩
  | 72 => ⟨S_, .i32⟩
  | 73 => ⟨S_, .i1⟩
  | 74 => ⟨S32768, .i1⟩
  | 75 => ⟨S32768, .i1⟩
  | 76 => ⟨S32768, .i1⟩
  | 77 => ⟨S32768, .i32⟩
  | 78 => ⟨S32768, .i32⟩
  | 79 => ⟨S32768, .i32⟩
  | 80 => ⟨S32768, .i32⟩
  | 81 => ⟨S_, .i32⟩
  | 82 => ⟨S32768, .i32⟩
  | 83 => ⟨S32768, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S32768, .i32⟩
  | 91 => ⟨S32768, .i32⟩
  | 92 => ⟨S_, .i32⟩
  | 93 => ⟨S32768, .i32⟩
  | 94 => ⟨S32768, .i1⟩
  | 95 => ⟨S_, .i32⟩
  | 96 => ⟨S32768, .i32⟩
  | 97 => ⟨S32768, .i1⟩
  | 98 => ⟨S_, .i32⟩
  | 99 => ⟨S_, .i1⟩
  | 100 => ⟨S32768, .i1⟩
  | 101 => ⟨S32768, .i1⟩
  | 102 => ⟨S32768, .i1⟩
  | 103 => ⟨S32768, .i32⟩
  | 104 => ⟨S32768, .i32⟩
  | 105 => ⟨S32768, .i32⟩
  | 106 => ⟨S_, .i32⟩
  | 107 => ⟨S32768, .i32⟩
  | 108 => ⟨S32768, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S32768, .i32⟩
  | 116 => ⟨S32768, .i32⟩
  | 117 => ⟨S_, .i32⟩
  | 118 => ⟨S32768, .i32⟩
  | 119 => ⟨S32768, .i1⟩
  | 120 => ⟨S_, .i32⟩
  | 121 => ⟨S32768, .i32⟩
  | 122 => ⟨S32768, .i1⟩
  | 123 => ⟨S_, .i32⟩
  | 124 => ⟨S_, .i1⟩
  | 125 => ⟨S32768, .i1⟩
  | 126 => ⟨S32768, .i1⟩
  | 127 => ⟨S32768, .i1⟩
  | _ => ⟨S32x8x256x256, .f32⟩

abbrev hbmTy0_1 (i : Nat) : BufTy := match i % 128 with
  | 0 => ⟨S32768, .i32⟩
  | 1 => ⟨S32768, .i32⟩
  | 2 => ⟨S32768, .i32⟩
  | 3 => ⟨S32768x1, .i32⟩
  | 4 => ⟨S32768x1, .i32⟩
  | 5 => ⟨S32768x1, .i32⟩
  | 6 => ⟨S32768x1, .i32⟩
  | 7 => ⟨S32768x4, .i32⟩
  | 8 => ⟨S_, .i32⟩
  | 9 => ⟨S32768, .i32⟩
  | 10 => ⟨S32768, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S32768, .i32⟩
  | 18 => ⟨S32768, .i32⟩
  | 19 => ⟨S_, .i32⟩
  | 20 => ⟨S32768, .i32⟩
  | 21 => ⟨S32768, .i1⟩
  | 22 => ⟨S_, .i32⟩
  | 23 => ⟨S32768, .i32⟩
  | 24 => ⟨S32768, .i1⟩
  | 25 => ⟨S_, .i32⟩
  | 26 => ⟨S_, .i1⟩
  | 27 => ⟨S32768, .i1⟩
  | 28 => ⟨S32768, .i1⟩
  | 29 => ⟨S32768, .i1⟩
  | 30 => ⟨S32768, .i32⟩
  | 31 => ⟨S32768, .i32⟩
  | 32 => ⟨S32768, .i32⟩
  | 33 => ⟨S_, .i32⟩
  | 34 => ⟨S32768, .i32⟩
  | 35 => ⟨S32768, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S32768, .i32⟩
  | 43 => ⟨S32768, .i32⟩
  | 44 => ⟨S_, .i32⟩
  | 45 => ⟨S32768, .i32⟩
  | 46 => ⟨S32768, .i1⟩
  | 47 => ⟨S_, .i32⟩
  | 48 => ⟨S32768, .i32⟩
  | 49 => ⟨S32768, .i1⟩
  | 50 => ⟨S_, .i32⟩
  | 51 => ⟨S_, .i1⟩
  | 52 => ⟨S32768, .i1⟩
  | 53 => ⟨S32768, .i1⟩
  | 54 => ⟨S32768, .i1⟩
  | 55 => ⟨S32768, .i32⟩
  | 56 => ⟨S32768, .i32⟩
  | 57 => ⟨S32768, .i32⟩
  | 58 => ⟨S32768x1, .i32⟩
  | 59 => ⟨S32768x1, .i32⟩
  | 60 => ⟨S32768x1, .i32⟩
  | 61 => ⟨S32768x1, .i32⟩
  | 62 => ⟨S32768x4, .i32⟩
  | 63 => ⟨S_, .i32⟩
  | 64 => ⟨S32768, .i32⟩
  | 65 => ⟨S32768, .i32⟩
  | 66 => ⟨S32768, .i32⟩
  | 67 => ⟨S_, .i32⟩
  | 68 => ⟨S32768x4, .i32⟩
  | 69 => ⟨S32768x4, .i32⟩
  | 70 => ⟨S32768x4, .i32⟩
  | 71 => ⟨S32768, .i32⟩
  | 72 => ⟨S_, .i32⟩
  | 73 => ⟨S_, .i32⟩
  | 74 => ⟨S32768, .i32⟩
  | 75 => ⟨S32768, .i32⟩
  | 76 => ⟨S32768, .i32⟩
  | 77 => ⟨S_, .i32⟩
  | 78 => ⟨S32768, .i32⟩
  | 79 => ⟨S32768, .i1⟩
  | 80 => ⟨S32768, .i32⟩
  | 81 => ⟨S32768, .i32⟩
  | 82 => ⟨S_, .i32⟩
  | 83 => ⟨S32768, .i32⟩
  | 84 => ⟨S32768, .i1⟩
  | 85 => ⟨S32768, .i1⟩
  | 86 => ⟨S_, .i32⟩
  | 87 => ⟨S32768, .i32⟩
  | 88 => ⟨S32768, .i32⟩
  | 89 => ⟨S32768, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S32768, .i32⟩
  | 97 => ⟨S32768, .i32⟩
  | 98 => ⟨S_, .i32⟩
  | 99 => ⟨S32768, .i32⟩
  | 100 => ⟨S32768, .i1⟩
  | 101 => ⟨S_, .i32⟩
  | 102 => ⟨S32768, .i32⟩
  | 103 => ⟨S32768, .i1⟩
  | 104 => ⟨S_, .i32⟩
  | 105 => ⟨S_, .i1⟩
  | 106 => ⟨S32768, .i1⟩
  | 107 => ⟨S32768, .i1⟩
  | 108 => ⟨S32768, .i1⟩
  | 109 => ⟨S32768, .i32⟩
  | 110 => ⟨S32768, .i32⟩
  | 111 => ⟨S32768, .i32⟩
  | 112 => ⟨S_, .i32⟩
  | 113 => ⟨S32768, .i32⟩
  | 114 => ⟨S32768, .i32⟩
  | 115 => ⟨S_, .i32⟩
  | 116 => ⟨S32768, .i32⟩
  | 117 => ⟨S32768, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S32768, .i32⟩
  | 125 => ⟨S32768, .i32⟩
  | 126 => ⟨S_, .i32⟩
  | 127 => ⟨S32768, .i32⟩
  | _ => ⟨S32x8x256x256, .f32⟩

abbrev hbmTy0_2 (i : Nat) : BufTy := match i % 128 with
  | 0 => ⟨S32768, .i1⟩
  | 1 => ⟨S_, .i32⟩
  | 2 => ⟨S32768, .i32⟩
  | 3 => ⟨S32768, .i1⟩
  | 4 => ⟨S_, .i32⟩
  | 5 => ⟨S_, .i1⟩
  | 6 => ⟨S32768, .i1⟩
  | 7 => ⟨S32768, .i1⟩
  | 8 => ⟨S32768, .i1⟩
  | 9 => ⟨S32768, .i32⟩
  | 10 => ⟨S32768, .i32⟩
  | 11 => ⟨S32768, .i32⟩
  | 12 => ⟨S32768, .i32⟩
  | 13 => ⟨S_, .i32⟩
  | 14 => ⟨S32768, .i32⟩
  | 15 => ⟨S32768, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S32768, .i32⟩
  | 23 => ⟨S32768, .i32⟩
  | 24 => ⟨S_, .i32⟩
  | 25 => ⟨S32768, .i32⟩
  | 26 => ⟨S32768, .i1⟩
  | 27 => ⟨S_, .i32⟩
  | 28 => ⟨S32768, .i32⟩
  | 29 => ⟨S32768, .i1⟩
  | 30 => ⟨S_, .i32⟩
  | 31 => ⟨S_, .i1⟩
  | 32 => ⟨S32768, .i1⟩
  | 33 => ⟨S32768, .i1⟩
  | 34 => ⟨S32768, .i1⟩
  | 35 => ⟨S32768, .i32⟩
  | 36 => ⟨S32768, .i32⟩
  | 37 => ⟨S32768, .i32⟩
  | 38 => ⟨S_, .i32⟩
  | 39 => ⟨S32768, .i32⟩
  | 40 => ⟨S32768, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S32768, .i32⟩
  | 48 => ⟨S32768, .i32⟩
  | 49 => ⟨S_, .i32⟩
  | 50 => ⟨S32768, .i32⟩
  | 51 => ⟨S32768, .i1⟩
  | 52 => ⟨S_, .i32⟩
  | 53 => ⟨S32768, .i32⟩
  | 54 => ⟨S32768, .i1⟩
  | 55 => ⟨S_, .i32⟩
  | 56 => ⟨S_, .i1⟩
  | 57 => ⟨S32768, .i1⟩
  | 58 => ⟨S32768, .i1⟩
  | 59 => ⟨S32768, .i1⟩
  | 60 => ⟨S32768, .i32⟩
  | 61 => ⟨S32768, .i32⟩
  | 62 => ⟨S32768, .i32⟩
  | 63 => ⟨S32768x1, .i32⟩
  | 64 => ⟨S32768x1, .i32⟩
  | 65 => ⟨S32768x1, .i32⟩
  | 66 => ⟨S32768x1, .i32⟩
  | 67 => ⟨S32768x4, .i32⟩
  | 68 => ⟨S_, .i32⟩
  | 69 => ⟨S32768, .i32⟩
  | 70 => ⟨S32768, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S32768, .i32⟩
  | 78 => ⟨S32768, .i32⟩
  | 79 => ⟨S_, .i32⟩
  | 80 => ⟨S32768, .i32⟩
  | 81 => ⟨S32768, .i1⟩
  | 82 => ⟨S_, .i32⟩
  | 83 => ⟨S32768, .i32⟩
  | 84 => ⟨S32768, .i1⟩
  | 85 => ⟨S_, .i32⟩
  | 86 => ⟨S_, .i1⟩
  | 87 => ⟨S32768, .i1⟩
  | 88 => ⟨S32768, .i1⟩
  | 89 => ⟨S32768, .i1⟩
  | 90 => ⟨S32768, .i32⟩
  | 91 => ⟨S32768, .i32⟩
  | 92 => ⟨S32768, .i32⟩
  | 93 => ⟨S_, .i32⟩
  | 94 => ⟨S32768, .i32⟩
  | 95 => ⟨S32768, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S32768, .i32⟩
  | 103 => ⟨S32768, .i32⟩
  | 104 => ⟨S_, .i32⟩
  | 105 => ⟨S32768, .i32⟩
  | 106 => ⟨S32768, .i1⟩
  | 107 => ⟨S_, .i32⟩
  | 108 => ⟨S32768, .i32⟩
  | 109 => ⟨S32768, .i1⟩
  | 110 => ⟨S_, .i32⟩
  | 111 => ⟨S_, .i1⟩
  | 112 => ⟨S32768, .i1⟩
  | 113 => ⟨S32768, .i1⟩
  | 114 => ⟨S32768, .i1⟩
  | 115 => ⟨S32768, .i32⟩
  | 116 => ⟨S32768, .i32⟩
  | 117 => ⟨S32768, .i32⟩
  | 118 => ⟨S32768x1, .i32⟩
  | 119 => ⟨S32768x1, .i32⟩
  | 120 => ⟨S32768x1, .i32⟩
  | 121 => ⟨S32768x1, .i32⟩
  | 122 => ⟨S32768x4, .i32⟩
  | 123 => ⟨S_, .i32⟩
  | 124 => ⟨S32768, .i32⟩
  | 125 => ⟨S32768, .i32⟩
  | 126 => ⟨S32768, .i32⟩
  | 127 => ⟨S_, .i32⟩
  | _ => ⟨S32x8x256x256, .f32⟩

abbrev hbmTy0_3 (i : Nat) : BufTy := match i % 128 with
  | 0 => ⟨S32768x4, .i32⟩
  | 1 => ⟨S32768x4, .i32⟩
  | 2 => ⟨S32768x4, .i32⟩
  | 3 => ⟨S_, .i32⟩
  | 4 => ⟨S32768, .i32⟩
  | 5 => ⟨S32768, .i1⟩
  | 6 => ⟨S_, .i32⟩
  | 7 => ⟨S32768, .i32⟩
  | 8 => ⟨S32768, .i32⟩
  | 9 => ⟨S32768, .i32⟩
  | 10 => ⟨S32768x1, .i32⟩
  | 11 => ⟨S1, .i32⟩
  | 12 => ⟨S_, .i32⟩
  | 13 => ⟨S32768x1, .i32⟩
  | 14 => ⟨S32768x1, .i1⟩
  | 15 => ⟨S1x1, .i32⟩
  | 16 => ⟨S32768x1, .i32⟩
  | 17 => ⟨S32768x1, .i1⟩
  | 18 => ⟨S32768x1, .i1⟩
  | 19 => ⟨S_, .i1⟩
  | 20 => ⟨S32768, .i1⟩
  | 21 => ⟨S32x8x32768, .f32⟩
  | 22 => ⟨S32x8x32768, .i1⟩
  | 23 => ⟨S_, .f32⟩
  | 24 => ⟨S32x8x32768, .f32⟩
  | 25 => ⟨S32x8x32768, .f32⟩
  | 26 => ⟨S_, .i32⟩
  | 27 => ⟨S32768x4, .i32⟩
  | 28 => ⟨S32768x4, .i1⟩
  | 29 => ⟨S_, .i32⟩
  | 30 => ⟨S32768x4, .i32⟩
  | 31 => ⟨S32768x4, .i32⟩
  | 32 => ⟨S32768x4, .i32⟩
  | 33 => ⟨S32768x4x1, .i32⟩
  | 34 => ⟨S1, .i32⟩
  | 35 => ⟨S_, .i32⟩
  | 36 => ⟨S32768x4x1, .i32⟩
  | 37 => ⟨S32768x4x1, .i1⟩
  | 38 => ⟨S1x1x1, .i32⟩
  | 39 => ⟨S32768x4x1, .i32⟩
  | 40 => ⟨S32768x4x1, .i1⟩
  | 41 => ⟨S32768x4x1, .i1⟩
  | 42 => ⟨S_, .i1⟩
  | 43 => ⟨S32768x4, .i1⟩
  | 44 => ⟨S32x8x32768x4, .f32⟩
  | 45 => ⟨S32x8x32768x4, .i1⟩
  | 46 => ⟨S_, .f32⟩
  | 47 => ⟨S32x8x32768x4, .f32⟩
  | 48 => ⟨S32x8x32768x4, .f32⟩
  | 49 => ⟨S_, .f32⟩
  | 50 => ⟨S32x8x32768, .f32⟩
  | 51 => ⟨S32x8x32768, .f32⟩
  | 52 => ⟨S32x8x32768x1, .f32⟩
  | 53 => ⟨S32x8x32768x4, .f32⟩
  | 54 => ⟨S32x8x32768x4, .f32⟩
  | 55 => ⟨S32x8x32768x4, .f32⟩
  | 56 => ⟨S_, .f32⟩
  | 57 => ⟨S32x8x32768, .f32⟩
  | 58 => ⟨S_, .f32⟩
  | 59 => ⟨S32x8x32768, .f32⟩
  | 60 => ⟨S32x8x32768, .f32⟩
  | 61 => ⟨S32x8x32768x1, .f32⟩
  | 62 => ⟨S32x8x32768x4, .f32⟩
  | 63 => ⟨S32x8x32768x4, .f32⟩
  | 64 => ⟨S32x8x32768x4, .f32⟩
  | 65 => ⟨S_, .f32⟩
  | 66 => ⟨S32x8x32768, .f32⟩
  | 67 => ⟨S_, .f32⟩
  | 68 => ⟨S32x8x32768, .f32⟩
  | 69 => ⟨S32x8x32768, .f32⟩
  | 70 => ⟨S32x8x32768, .f32⟩
  | 71 => ⟨S32x8x32768, .f32⟩
  | 72 => ⟨S32x1x1, .f32⟩
  | 73 => ⟨S32x8x32768, .f32⟩
  | 74 => ⟨S32x8x32768, .f32⟩
  | 75 => ⟨S_, .f32⟩
  | 76 => ⟨S32x8x32768, .f32⟩
  | 77 => ⟨S32x8x32768, .f32⟩
  | 78 => ⟨S32x8x32768, .f32⟩
  | 79 => ⟨S32x8x32768, .i1⟩
  | 80 => ⟨S32x8x32768, .f32⟩
  | 81 => ⟨S_, .i32⟩
  | 82 => ⟨S32768, .i32⟩
  | 83 => ⟨S32768, .i1⟩
  | 84 => ⟨S_, .i32⟩
  | 85 => ⟨S32768, .i32⟩
  | 86 => ⟨S32768, .i32⟩
  | 87 => ⟨S32768, .i32⟩
  | 88 => ⟨S32768x1, .i32⟩
  | 89 => ⟨S32x8x65536, .f32⟩
  | 90 => ⟨S_, .i32⟩
  | 91 => ⟨S32768, .i32⟩
  | 92 => ⟨S32768, .i1⟩
  | 93 => ⟨S_, .i32⟩
  | 94 => ⟨S32768, .i32⟩
  | 95 => ⟨S32768, .i32⟩
  | 96 => ⟨S32768, .i32⟩
  | 97 => ⟨S32768x1, .i32⟩
  | 98 => ⟨S1, .i32⟩
  | 99 => ⟨S_, .i32⟩
  | 100 => ⟨S32768x1, .i32⟩
  | 101 => ⟨S32768x1, .i1⟩
  | 102 => ⟨S1x1, .i32⟩
  | 103 => ⟨S32768x1, .i32⟩
  | 104 => ⟨S32768x1, .i1⟩
  | 105 => ⟨S32768x1, .i1⟩
  | 106 => ⟨S_, .i1⟩
  | 107 => ⟨S32768, .i1⟩
  | 108 => ⟨S32x8x32768, .f32⟩
  | 109 => ⟨S32x8x32768, .i1⟩
  | 110 => ⟨S_, .f32⟩
  | 111 => ⟨S32x8x32768, .f32⟩
  | 112 => ⟨S32x8x32768, .f32⟩
  | 113 => ⟨S_, .i32⟩
  | 114 => ⟨S32768x4, .i32⟩
  | 115 => ⟨S32768x4, .i1⟩
  | 116 => ⟨S_, .i32⟩
  | 117 => ⟨S32768x4, .i32⟩
  | 118 => ⟨S32768x4, .i32⟩
  | 119 => ⟨S32768x4, .i32⟩
  | 120 => ⟨S32768x4x1, .i32⟩
  | 121 => ⟨S1, .i32⟩
  | 122 => ⟨S_, .i32⟩
  | 123 => ⟨S32768x4x1, .i32⟩
  | 124 => ⟨S32768x4x1, .i1⟩
  | 125 => ⟨S1x1x1, .i32⟩
  | 126 => ⟨S32768x4x1, .i32⟩
  | 127 => ⟨S32768x4x1, .i1⟩
  | _ => ⟨S32x8x256x256, .f32⟩

abbrev hbmTy0_4 (i : Nat) : BufTy := match i % 128 with
  | 0 => ⟨S32768x4x1, .i1⟩
  | 1 => ⟨S_, .i1⟩
  | 2 => ⟨S32768x4, .i1⟩
  | 3 => ⟨S32x8x32768x4, .f32⟩
  | 4 => ⟨S32x8x32768x4, .i1⟩
  | 5 => ⟨S_, .f32⟩
  | 6 => ⟨S32x8x32768x4, .f32⟩
  | 7 => ⟨S32x8x32768x4, .f32⟩
  | 8 => ⟨S_, .f32⟩
  | 9 => ⟨S32x8x32768, .f32⟩
  | 10 => ⟨S32x8x32768, .f32⟩
  | 11 => ⟨S32x8x32768x1, .f32⟩
  | 12 => ⟨S32x8x32768x4, .f32⟩
  | 13 => ⟨S32x8x32768x4, .f32⟩
  | 14 => ⟨S32x8x32768x4, .f32⟩
  | 15 => ⟨S_, .f32⟩
  | 16 => ⟨S32x8x32768, .f32⟩
  | 17 => ⟨S_, .f32⟩
  | 18 => ⟨S32x8x32768, .f32⟩
  | 19 => ⟨S32x8x32768, .f32⟩
  | 20 => ⟨S32x8x32768x1, .f32⟩
  | 21 => ⟨S32x8x32768x4, .f32⟩
  | 22 => ⟨S32x8x32768x4, .f32⟩
  | 23 => ⟨S32x8x32768x4, .f32⟩
  | 24 => ⟨S_, .f32⟩
  | 25 => ⟨S32x8x32768, .f32⟩
  | 26 => ⟨S_, .f32⟩
  | 27 => ⟨S32x8x32768, .f32⟩
  | 28 => ⟨S32x8x32768, .f32⟩
  | 29 => ⟨S32x8x32768, .f32⟩
  | 30 => ⟨S32x8x32768, .f32⟩
  | 31 => ⟨S32x1x1, .f32⟩
  | 32 => ⟨S32x8x32768, .f32⟩
  | 33 => ⟨S32x8x32768, .f32⟩
  | 34 => ⟨S_, .f32⟩
  | 35 => ⟨S32x8x32768, .f32⟩
  | 36 => ⟨S32x8x32768, .f32⟩
  | 37 => ⟨S32x8x32768, .f32⟩
  | 38 => ⟨S32x8x32768, .i1⟩
  | 39 => ⟨S32x8x32768, .f32⟩
  | 40 => ⟨S_, .i32⟩
  | 41 => ⟨S32768, .i32⟩
  | 42 => ⟨S32768, .i1⟩
  | 43 => ⟨S_, .i32⟩
  | 44 => ⟨S32768, .i32⟩
  | 45 => ⟨S32768, .i32⟩
  | 46 => ⟨S32768, .i32⟩
  | 47 => ⟨S32768x1, .i32⟩
  | 48 => ⟨S32x8x65536, .f32⟩
  | 49 => ⟨S32x8x256x256, .f32⟩
  | 50 => ⟨S32x8x255x256, .f32⟩
  | 51 => ⟨S32x8x1x256, .f32⟩
  | 52 => ⟨S32x8x256x256, .f32⟩
  | 53 => ⟨S32x8x256x256, .f32⟩
  | 54 => ⟨S32x8x256x256, .f32⟩
  | 55 => ⟨S32x8x256x255, .f32⟩
  | 56 => ⟨S32x8x256x1, .f32⟩
  | 57 => ⟨S32x8x256x256, .f32⟩
  | 58 => ⟨S32x8x256x256, .f32⟩
  | 59 => ⟨S32x8x256x256, .f32⟩
  | 60 => ⟨S32x8x256x256, .f32⟩
  | 61 => ⟨S_, .f32⟩
  | 62 => ⟨S32x8, .f32⟩
  | 63 => ⟨S_, .f32⟩
  | 64 => ⟨S32x8, .f32⟩
  | 65 => ⟨S32x8, .f32⟩
  | 66 => ⟨S_, .f32⟩
  | 67 => ⟨S32, .f32⟩
  | 68 => ⟨S32, .f32⟩
  | 69 => ⟨S16x8, .f32⟩
  | 70 => ⟨S16x8, .f32⟩
  | 71 => ⟨S16, .f32⟩
  | 72 => ⟨S16, .f32⟩
  | 73 => ⟨S16, .f32⟩
  | 74 => ⟨S16x1, .f32⟩
  | 75 => ⟨S16x8, .f32⟩
  | 76 => ⟨S16x8, .f32⟩
  | 77 => ⟨S16x8, .f32⟩
  | 78 => ⟨S_, .f32⟩
  | 79 => ⟨S16x8, .f32⟩
  | 80 => ⟨S16x8, .f32⟩
  | 81 => ⟨S16x8, .f32⟩
  | 82 => ⟨S16x8, .i1⟩
  | 83 => ⟨S16x8x256x256, .f32⟩
  | 84 => ⟨S16x8x256x256, .f32⟩
  | 85 => ⟨S16x8x1x1, .i1⟩
  | 86 => ⟨S16x8x256x256, .i1⟩
  | 87 => ⟨S16x8x256x256, .f32⟩
  | 88 => ⟨S16x8x256x256, .i1⟩
  | 89 => ⟨S16x8x256x256, .f32⟩
  | 90 => ⟨S16x1x8x256x256, .f32⟩
  | 91 => ⟨S16x1x8x256x256, .f32⟩
  | 92 => ⟨S16x2x8x256x256, .f32⟩
  | 93 => ⟨S32x8x256x256, .f32⟩
  | 94 => ⟨S16x8, .f32⟩
  | 95 => ⟨S16x8, .f32⟩
  | 96 => ⟨S16x1x8, .f32⟩
  | 97 => ⟨S16x1x8, .f32⟩
  | 98 => ⟨S16x2x8, .f32⟩
  | 99 => ⟨S32x8, .f32⟩
  | _ => ⟨S32x8x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x8x256x256, .f32⟩

abbrev bufTy : (tb : Table) → Fin (tcTables nBuf tb) → BufTy
  | .hbm, ⟨i, _⟩ => hbmTy i
  | _, _ => ⟨S32x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v5 : Ref sig .tc := ⟨.hbm, 51, rfl⟩
abbrev main_c_1 : Ref sig .tc := ⟨.hbm, 52, rfl⟩
abbrev main_v6 : Ref sig .tc := ⟨.hbm, 53, rfl⟩
abbrev main_v7 : Ref sig .tc := ⟨.hbm, 54, rfl⟩
abbrev main_c_2 : Ref sig .tc := ⟨.hbm, 55, rfl⟩
abbrev main_v8 : Ref sig .tc := ⟨.hbm, 56, rfl⟩
abbrev main_v9 : Ref sig .tc := ⟨.hbm, 57, rfl⟩
abbrev main_c_3 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v10 : Ref sig .tc := ⟨.hbm, 79, rfl⟩
abbrev main_v11 : Ref sig .tc := ⟨.hbm, 80, rfl⟩
abbrev main_c_4 : Ref sig .tc := ⟨.hbm, 81, rfl⟩
abbrev main_v12 : Ref sig .tc := ⟨.hbm, 82, rfl⟩
abbrev main_v13 : Ref sig .tc := ⟨.hbm, 83, rfl⟩
abbrev main_c_5 : Ref sig .tc := ⟨.hbm, 84, rfl⟩
abbrev main_call3_v0 : Ref sig .tc := ⟨.hbm, 85, rfl⟩
abbrev main_call3_c : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_c_1 : Ref sig .tc := ⟨.hbm, 92, rfl⟩
abbrev main_call3_v5 : Ref sig .tc := ⟨.hbm, 93, rfl⟩
abbrev main_call3_v6 : Ref sig .tc := ⟨.hbm, 94, rfl⟩
abbrev main_call3_c_2 : Ref sig .tc := ⟨.hbm, 95, rfl⟩
abbrev main_call3_v7 : Ref sig .tc := ⟨.hbm, 96, rfl⟩
abbrev main_call3_v8 : Ref sig .tc := ⟨.hbm, 97, rfl⟩
abbrev main_call3_c_3 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_v14 : Ref sig .tc := ⟨.hbm, 105, rfl⟩
abbrev main_c_6 : Ref sig .tc := ⟨.hbm, 106, rfl⟩
abbrev main_v15 : Ref sig .tc := ⟨.hbm, 107, rfl⟩
abbrev main_v16 : Ref sig .tc := ⟨.hbm, 108, rfl⟩
abbrev main_c_7 : Ref sig .tc := ⟨.hbm, 109, rfl⟩
abbrev main_call4_v0 : Ref sig .tc := ⟨.hbm, 110, rfl⟩
abbrev main_call4_c : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_c_1 : Ref sig .tc := ⟨.hbm, 117, rfl⟩
abbrev main_call4_v5 : Ref sig .tc := ⟨.hbm, 118, rfl⟩
abbrev main_call4_v6 : Ref sig .tc := ⟨.hbm, 119, rfl⟩
abbrev main_call4_c_2 : Ref sig .tc := ⟨.hbm, 120, rfl⟩
abbrev main_call4_v7 : Ref sig .tc := ⟨.hbm, 121, rfl⟩
abbrev main_call4_v8 : Ref sig .tc := ⟨.hbm, 122, rfl⟩
abbrev main_call4_c_3 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_call4_v12 : Ref sig .tc := ⟨.hbm, 127, rfl⟩
abbrev main_call4_v13 : Ref sig .tc := ⟨.hbm, 128, rfl⟩
abbrev main_call4_v14 : Ref sig .tc := ⟨.hbm, 129, rfl⟩
abbrev main_v17 : Ref sig .tc := ⟨.hbm, 130, rfl⟩
abbrev main_v18 : Ref sig .tc := ⟨.hbm, 131, rfl⟩
abbrev main_v19 : Ref sig .tc := ⟨.hbm, 132, rfl⟩
abbrev main_v20 : Ref sig .tc := ⟨.hbm, 133, rfl⟩
abbrev main_v21 : Ref sig .tc := ⟨.hbm, 134, rfl⟩
abbrev main_v22 : Ref sig .tc := ⟨.hbm, 135, rfl⟩
abbrev main_c_8 : Ref sig .tc := ⟨.hbm, 136, rfl⟩
abbrev main_v23 : Ref sig .tc := ⟨.hbm, 137, rfl⟩
abbrev main_v24 : Ref sig .tc := ⟨.hbm, 138, rfl⟩
abbrev main_c_9 : Ref sig .tc := ⟨.hbm, 139, rfl⟩
abbrev main_call5_v0 : Ref sig .tc := ⟨.hbm, 140, rfl⟩
abbrev main_call5_c : Ref sig .tc := ⟨.hbm, 141, rfl⟩
abbrev main_call5_v1 : Ref sig .tc := ⟨.hbm, 142, rfl⟩
abbrev main_call5_c_0 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_c_1 : Ref sig .tc := ⟨.hbm, 147, rfl⟩
abbrev main_call5_v5 : Ref sig .tc := ⟨.hbm, 148, rfl⟩
abbrev main_call5_v6 : Ref sig .tc := ⟨.hbm, 149, rfl⟩
abbrev main_call5_c_2 : Ref sig .tc := ⟨.hbm, 150, rfl⟩
abbrev main_call5_v7 : Ref sig .tc := ⟨.hbm, 151, rfl⟩
abbrev main_call5_v8 : Ref sig .tc := ⟨.hbm, 152, rfl⟩
abbrev main_call5_c_3 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_v12 : Ref sig .tc := ⟨.hbm, 157, rfl⟩
abbrev main_call5_v13 : Ref sig .tc := ⟨.hbm, 158, rfl⟩
abbrev main_call5_v14 : Ref sig .tc := ⟨.hbm, 159, rfl⟩
abbrev main_v25 : Ref sig .tc := ⟨.hbm, 160, rfl⟩
abbrev main_c_10 : Ref sig .tc := ⟨.hbm, 161, rfl⟩
abbrev main_v26 : Ref sig .tc := ⟨.hbm, 162, rfl⟩
abbrev main_v27 : Ref sig .tc := ⟨.hbm, 163, rfl⟩
abbrev main_c_11 : Ref sig .tc := ⟨.hbm, 164, rfl⟩
abbrev main_call6_v0 : Ref sig .tc := ⟨.hbm, 165, rfl⟩
abbrev main_call6_c : Ref sig .tc := ⟨.hbm, 166, rfl⟩
abbrev main_call6_v1 : Ref sig .tc := ⟨.hbm, 167, rfl⟩
abbrev main_call6_c_0 : Ref sig .tc := ⟨.hbm, 168, rfl⟩
abbrev main_call6_v2 : Ref sig .tc := ⟨.hbm, 169, rfl⟩
abbrev main_call6_v3 : Ref sig .tc := ⟨.hbm, 170, rfl⟩
abbrev main_call6_v4 : Ref sig .tc := ⟨.hbm, 171, rfl⟩
abbrev main_call6_c_1 : Ref sig .tc := ⟨.hbm, 172, rfl⟩
abbrev main_call6_v5 : Ref sig .tc := ⟨.hbm, 173, rfl⟩
abbrev main_call6_v6 : Ref sig .tc := ⟨.hbm, 174, rfl⟩
abbrev main_call6_c_2 : Ref sig .tc := ⟨.hbm, 175, rfl⟩
abbrev main_call6_v7 : Ref sig .tc := ⟨.hbm, 176, rfl⟩
abbrev main_call6_v8 : Ref sig .tc := ⟨.hbm, 177, rfl⟩
abbrev main_call6_c_3 : Ref sig .tc := ⟨.hbm, 178, rfl⟩
abbrev main_call6_v9 : Ref sig .tc := ⟨.hbm, 179, rfl⟩
abbrev main_call6_v10 : Ref sig .tc := ⟨.hbm, 180, rfl⟩
abbrev main_call6_v11 : Ref sig .tc := ⟨.hbm, 181, rfl⟩
abbrev main_call6_v12 : Ref sig .tc := ⟨.hbm, 182, rfl⟩
abbrev main_call6_v13 : Ref sig .tc := ⟨.hbm, 183, rfl⟩
abbrev main_call6_v14 : Ref sig .tc := ⟨.hbm, 184, rfl⟩
abbrev main_v28 : Ref sig .tc := ⟨.hbm, 185, rfl⟩
abbrev main_v29 : Ref sig .tc := ⟨.hbm, 186, rfl⟩
abbrev main_v30 : Ref sig .tc := ⟨.hbm, 187, rfl⟩
abbrev main_v31 : Ref sig .tc := ⟨.hbm, 188, rfl⟩
abbrev main_v32 : Ref sig .tc := ⟨.hbm, 189, rfl⟩
abbrev main_v33 : Ref sig .tc := ⟨.hbm, 190, rfl⟩
abbrev main_c_12 : Ref sig .tc := ⟨.hbm, 191, rfl⟩
abbrev main_v34 : Ref sig .tc := ⟨.hbm, 192, rfl⟩
abbrev main_v35 : Ref sig .tc := ⟨.hbm, 193, rfl⟩
abbrev main_v36 : Ref sig .tc := ⟨.hbm, 194, rfl⟩
abbrev main_c_13 : Ref sig .tc := ⟨.hbm, 195, rfl⟩
abbrev main_v37 : Ref sig .tc := ⟨.hbm, 196, rfl⟩
abbrev main_v38 : Ref sig .tc := ⟨.hbm, 197, rfl⟩
abbrev main_v39 : Ref sig .tc := ⟨.hbm, 198, rfl⟩
abbrev main_v40 : Ref sig .tc := ⟨.hbm, 199, rfl⟩
abbrev main_c_14 : Ref sig .tc := ⟨.hbm, 200, rfl⟩
abbrev main_call7_v0 : Ref sig .tc := ⟨.hbm, 201, rfl⟩
abbrev main_call7_v1 : Ref sig .tc := ⟨.hbm, 202, rfl⟩
abbrev main_call7_v2 : Ref sig .tc := ⟨.hbm, 203, rfl⟩
abbrev main_call7_v3 : Ref sig .tc := ⟨.hbm, 204, rfl⟩
abbrev main_call7_v4 : Ref sig .tc := ⟨.hbm, 205, rfl⟩
abbrev main_call7_v5 : Ref sig .tc := ⟨.hbm, 206, rfl⟩
abbrev main_call7_v6 : Ref sig .tc := ⟨.hbm, 207, rfl⟩
abbrev main_call7_v7 : Ref sig .tc := ⟨.hbm, 208, rfl⟩
abbrev main_call7_v8 : Ref sig .tc := ⟨.hbm, 209, rfl⟩
abbrev main_call7_c : Ref sig .tc := ⟨.hbm, 210, rfl⟩
abbrev main_call7_v9 : Ref sig .tc := ⟨.hbm, 211, rfl⟩
abbrev main_call7_v10 : Ref sig .tc := ⟨.hbm, 212, rfl⟩
abbrev main_call7_v11 : Ref sig .tc := ⟨.hbm, 213, rfl⟩
abbrev main_call7_c_0 : Ref sig .tc := ⟨.hbm, 214, rfl⟩
abbrev main_call7_v12 : Ref sig .tc := ⟨.hbm, 215, rfl⟩
abbrev main_call7_v13 : Ref sig .tc := ⟨.hbm, 216, rfl⟩
abbrev main_v41 : Ref sig .tc := ⟨.hbm, 217, rfl⟩
abbrev main_c_15 : Ref sig .tc := ⟨.hbm, 218, rfl⟩
abbrev main_call8_v0 : Ref sig .tc := ⟨.hbm, 219, rfl⟩
abbrev main_call8_c : Ref sig .tc := ⟨.hbm, 220, rfl⟩
abbrev main_call8_v1 : Ref sig .tc := ⟨.hbm, 221, rfl⟩
abbrev main_call8_c_0 : Ref sig .tc := ⟨.hbm, 222, rfl⟩
abbrev main_call8_v2 : Ref sig .tc := ⟨.hbm, 223, rfl⟩
abbrev main_call8_v3 : Ref sig .tc := ⟨.hbm, 224, rfl⟩
abbrev main_call8_v4 : Ref sig .tc := ⟨.hbm, 225, rfl⟩
abbrev main_call8_c_1 : Ref sig .tc := ⟨.hbm, 226, rfl⟩
abbrev main_call8_v5 : Ref sig .tc := ⟨.hbm, 227, rfl⟩
abbrev main_call8_v6 : Ref sig .tc := ⟨.hbm, 228, rfl⟩
abbrev main_call8_c_2 : Ref sig .tc := ⟨.hbm, 229, rfl⟩
abbrev main_call8_v7 : Ref sig .tc := ⟨.hbm, 230, rfl⟩
abbrev main_call8_v8 : Ref sig .tc := ⟨.hbm, 231, rfl⟩
abbrev main_call8_c_3 : Ref sig .tc := ⟨.hbm, 232, rfl⟩
abbrev main_call8_v9 : Ref sig .tc := ⟨.hbm, 233, rfl⟩
abbrev main_call8_v10 : Ref sig .tc := ⟨.hbm, 234, rfl⟩
abbrev main_call8_v11 : Ref sig .tc := ⟨.hbm, 235, rfl⟩
abbrev main_call8_v12 : Ref sig .tc := ⟨.hbm, 236, rfl⟩
abbrev main_call8_v13 : Ref sig .tc := ⟨.hbm, 237, rfl⟩
abbrev main_call8_v14 : Ref sig .tc := ⟨.hbm, 238, rfl⟩
abbrev main_v42 : Ref sig .tc := ⟨.hbm, 239, rfl⟩
abbrev main_c_16 : Ref sig .tc := ⟨.hbm, 240, rfl⟩
abbrev main_v43 : Ref sig .tc := ⟨.hbm, 241, rfl⟩
abbrev main_v44 : Ref sig .tc := ⟨.hbm, 242, rfl⟩
abbrev main_c_17 : Ref sig .tc := ⟨.hbm, 243, rfl⟩
abbrev main_v45 : Ref sig .tc := ⟨.hbm, 244, rfl⟩
abbrev main_v46 : Ref sig .tc := ⟨.hbm, 245, rfl⟩
abbrev main_c_18 : Ref sig .tc := ⟨.hbm, 246, rfl⟩
abbrev main_call9_v0 : Ref sig .tc := ⟨.hbm, 247, rfl⟩
abbrev main_call9_c : Ref sig .tc := ⟨.hbm, 248, rfl⟩
abbrev main_call9_v1 : Ref sig .tc := ⟨.hbm, 249, rfl⟩
abbrev main_call9_c_0 : Ref sig .tc := ⟨.hbm, 250, rfl⟩
abbrev main_call9_v2 : Ref sig .tc := ⟨.hbm, 251, rfl⟩
abbrev main_call9_v3 : Ref sig .tc := ⟨.hbm, 252, rfl⟩
abbrev main_call9_v4 : Ref sig .tc := ⟨.hbm, 253, rfl⟩
abbrev main_call9_c_1 : Ref sig .tc := ⟨.hbm, 254, rfl⟩
abbrev main_call9_v5 : Ref sig .tc := ⟨.hbm, 255, rfl⟩
abbrev main_call9_v6 : Ref sig .tc := ⟨.hbm, 256, rfl⟩
abbrev main_call9_c_2 : Ref sig .tc := ⟨.hbm, 257, rfl⟩
abbrev main_call9_v7 : Ref sig .tc := ⟨.hbm, 258, rfl⟩
abbrev main_call9_v8 : Ref sig .tc := ⟨.hbm, 259, rfl⟩
abbrev main_call9_c_3 : Ref sig .tc := ⟨.hbm, 260, rfl⟩
abbrev main_call9_v9 : Ref sig .tc := ⟨.hbm, 261, rfl⟩
abbrev main_call9_v10 : Ref sig .tc := ⟨.hbm, 262, rfl⟩
abbrev main_call9_v11 : Ref sig .tc := ⟨.hbm, 263, rfl⟩
abbrev main_call9_v12 : Ref sig .tc := ⟨.hbm, 264, rfl⟩
abbrev main_call9_v13 : Ref sig .tc := ⟨.hbm, 265, rfl⟩
abbrev main_call9_v14 : Ref sig .tc := ⟨.hbm, 266, rfl⟩
abbrev main_v47 : Ref sig .tc := ⟨.hbm, 267, rfl⟩
abbrev main_v48 : Ref sig .tc := ⟨.hbm, 268, rfl⟩
abbrev main_c_19 : Ref sig .tc := ⟨.hbm, 269, rfl⟩
abbrev main_v49 : Ref sig .tc := ⟨.hbm, 270, rfl⟩
abbrev main_v50 : Ref sig .tc := ⟨.hbm, 271, rfl⟩
abbrev main_c_20 : Ref sig .tc := ⟨.hbm, 272, rfl⟩
abbrev main_call10_v0 : Ref sig .tc := ⟨.hbm, 273, rfl⟩
abbrev main_call10_c : Ref sig .tc := ⟨.hbm, 274, rfl⟩
abbrev main_call10_v1 : Ref sig .tc := ⟨.hbm, 275, rfl⟩
abbrev main_call10_c_0 : Ref sig .tc := ⟨.hbm, 276, rfl⟩
abbrev main_call10_v2 : Ref sig .tc := ⟨.hbm, 277, rfl⟩
abbrev main_call10_v3 : Ref sig .tc := ⟨.hbm, 278, rfl⟩
abbrev main_call10_v4 : Ref sig .tc := ⟨.hbm, 279, rfl⟩
abbrev main_call10_c_1 : Ref sig .tc := ⟨.hbm, 280, rfl⟩
abbrev main_call10_v5 : Ref sig .tc := ⟨.hbm, 281, rfl⟩
abbrev main_call10_v6 : Ref sig .tc := ⟨.hbm, 282, rfl⟩
abbrev main_call10_c_2 : Ref sig .tc := ⟨.hbm, 283, rfl⟩
abbrev main_call10_v7 : Ref sig .tc := ⟨.hbm, 284, rfl⟩
abbrev main_call10_v8 : Ref sig .tc := ⟨.hbm, 285, rfl⟩
abbrev main_call10_c_3 : Ref sig .tc := ⟨.hbm, 286, rfl⟩
abbrev main_call10_v9 : Ref sig .tc := ⟨.hbm, 287, rfl⟩
abbrev main_call10_v10 : Ref sig .tc := ⟨.hbm, 288, rfl⟩
abbrev main_call10_v11 : Ref sig .tc := ⟨.hbm, 289, rfl⟩
abbrev main_call10_v12 : Ref sig .tc := ⟨.hbm, 290, rfl⟩
abbrev main_call10_v13 : Ref sig .tc := ⟨.hbm, 291, rfl⟩
abbrev main_call10_v14 : Ref sig .tc := ⟨.hbm, 292, rfl⟩
abbrev main_v51 : Ref sig .tc := ⟨.hbm, 293, rfl⟩
abbrev main_c_21 : Ref sig .tc := ⟨.hbm, 294, rfl⟩
abbrev main_v52 : Ref sig .tc := ⟨.hbm, 295, rfl⟩
abbrev main_v53 : Ref sig .tc := ⟨.hbm, 296, rfl⟩
abbrev main_c_22 : Ref sig .tc := ⟨.hbm, 297, rfl⟩
abbrev main_call11_v0 : Ref sig .tc := ⟨.hbm, 298, rfl⟩
abbrev main_call11_c : Ref sig .tc := ⟨.hbm, 299, rfl⟩
abbrev main_call11_v1 : Ref sig .tc := ⟨.hbm, 300, rfl⟩
abbrev main_call11_c_0 : Ref sig .tc := ⟨.hbm, 301, rfl⟩
abbrev main_call11_v2 : Ref sig .tc := ⟨.hbm, 302, rfl⟩
abbrev main_call11_v3 : Ref sig .tc := ⟨.hbm, 303, rfl⟩
abbrev main_call11_v4 : Ref sig .tc := ⟨.hbm, 304, rfl⟩
abbrev main_call11_c_1 : Ref sig .tc := ⟨.hbm, 305, rfl⟩
abbrev main_call11_v5 : Ref sig .tc := ⟨.hbm, 306, rfl⟩
abbrev main_call11_v6 : Ref sig .tc := ⟨.hbm, 307, rfl⟩
abbrev main_call11_c_2 : Ref sig .tc := ⟨.hbm, 308, rfl⟩
abbrev main_call11_v7 : Ref sig .tc := ⟨.hbm, 309, rfl⟩
abbrev main_call11_v8 : Ref sig .tc := ⟨.hbm, 310, rfl⟩
abbrev main_call11_c_3 : Ref sig .tc := ⟨.hbm, 311, rfl⟩
abbrev main_call11_v9 : Ref sig .tc := ⟨.hbm, 312, rfl⟩
abbrev main_call11_v10 : Ref sig .tc := ⟨.hbm, 313, rfl⟩
abbrev main_call11_v11 : Ref sig .tc := ⟨.hbm, 314, rfl⟩
abbrev main_call11_v12 : Ref sig .tc := ⟨.hbm, 315, rfl⟩
abbrev main_call11_v13 : Ref sig .tc := ⟨.hbm, 316, rfl⟩
abbrev main_call11_v14 : Ref sig .tc := ⟨.hbm, 317, rfl⟩
abbrev main_v54 : Ref sig .tc := ⟨.hbm, 318, rfl⟩
abbrev main_v55 : Ref sig .tc := ⟨.hbm, 319, rfl⟩
abbrev main_v56 : Ref sig .tc := ⟨.hbm, 320, rfl⟩
abbrev main_v57 : Ref sig .tc := ⟨.hbm, 321, rfl⟩
abbrev main_v58 : Ref sig .tc := ⟨.hbm, 322, rfl⟩
abbrev main_v59 : Ref sig .tc := ⟨.hbm, 323, rfl⟩
abbrev main_c_23 : Ref sig .tc := ⟨.hbm, 324, rfl⟩
abbrev main_v60 : Ref sig .tc := ⟨.hbm, 325, rfl⟩
abbrev main_v61 : Ref sig .tc := ⟨.hbm, 326, rfl⟩
abbrev main_c_24 : Ref sig .tc := ⟨.hbm, 327, rfl⟩
abbrev main_call12_v0 : Ref sig .tc := ⟨.hbm, 328, rfl⟩
abbrev main_call12_c : Ref sig .tc := ⟨.hbm, 329, rfl⟩
abbrev main_call12_v1 : Ref sig .tc := ⟨.hbm, 330, rfl⟩
abbrev main_call12_c_0 : Ref sig .tc := ⟨.hbm, 331, rfl⟩
abbrev main_call12_v2 : Ref sig .tc := ⟨.hbm, 332, rfl⟩
abbrev main_call12_v3 : Ref sig .tc := ⟨.hbm, 333, rfl⟩
abbrev main_call12_v4 : Ref sig .tc := ⟨.hbm, 334, rfl⟩
abbrev main_call12_c_1 : Ref sig .tc := ⟨.hbm, 335, rfl⟩
abbrev main_call12_v5 : Ref sig .tc := ⟨.hbm, 336, rfl⟩
abbrev main_call12_v6 : Ref sig .tc := ⟨.hbm, 337, rfl⟩
abbrev main_call12_c_2 : Ref sig .tc := ⟨.hbm, 338, rfl⟩
abbrev main_call12_v7 : Ref sig .tc := ⟨.hbm, 339, rfl⟩
abbrev main_call12_v8 : Ref sig .tc := ⟨.hbm, 340, rfl⟩
abbrev main_call12_c_3 : Ref sig .tc := ⟨.hbm, 341, rfl⟩
abbrev main_call12_v9 : Ref sig .tc := ⟨.hbm, 342, rfl⟩
abbrev main_call12_v10 : Ref sig .tc := ⟨.hbm, 343, rfl⟩
abbrev main_call12_v11 : Ref sig .tc := ⟨.hbm, 344, rfl⟩
abbrev main_call12_v12 : Ref sig .tc := ⟨.hbm, 345, rfl⟩
abbrev main_call12_v13 : Ref sig .tc := ⟨.hbm, 346, rfl⟩
abbrev main_call12_v14 : Ref sig .tc := ⟨.hbm, 347, rfl⟩
abbrev main_v62 : Ref sig .tc := ⟨.hbm, 348, rfl⟩
abbrev main_c_25 : Ref sig .tc := ⟨.hbm, 349, rfl⟩
abbrev main_v63 : Ref sig .tc := ⟨.hbm, 350, rfl⟩
abbrev main_v64 : Ref sig .tc := ⟨.hbm, 351, rfl⟩
abbrev main_c_26 : Ref sig .tc := ⟨.hbm, 352, rfl⟩
abbrev main_call13_v0 : Ref sig .tc := ⟨.hbm, 353, rfl⟩
abbrev main_call13_c : Ref sig .tc := ⟨.hbm, 354, rfl⟩
abbrev main_call13_v1 : Ref sig .tc := ⟨.hbm, 355, rfl⟩
abbrev main_call13_c_0 : Ref sig .tc := ⟨.hbm, 356, rfl⟩
abbrev main_call13_v2 : Ref sig .tc := ⟨.hbm, 357, rfl⟩
abbrev main_call13_v3 : Ref sig .tc := ⟨.hbm, 358, rfl⟩
abbrev main_call13_v4 : Ref sig .tc := ⟨.hbm, 359, rfl⟩
abbrev main_call13_c_1 : Ref sig .tc := ⟨.hbm, 360, rfl⟩
abbrev main_call13_v5 : Ref sig .tc := ⟨.hbm, 361, rfl⟩
abbrev main_call13_v6 : Ref sig .tc := ⟨.hbm, 362, rfl⟩
abbrev main_call13_c_2 : Ref sig .tc := ⟨.hbm, 363, rfl⟩
abbrev main_call13_v7 : Ref sig .tc := ⟨.hbm, 364, rfl⟩
abbrev main_call13_v8 : Ref sig .tc := ⟨.hbm, 365, rfl⟩
abbrev main_call13_c_3 : Ref sig .tc := ⟨.hbm, 366, rfl⟩
abbrev main_call13_v9 : Ref sig .tc := ⟨.hbm, 367, rfl⟩
abbrev main_call13_v10 : Ref sig .tc := ⟨.hbm, 368, rfl⟩
abbrev main_call13_v11 : Ref sig .tc := ⟨.hbm, 369, rfl⟩
abbrev main_call13_v12 : Ref sig .tc := ⟨.hbm, 370, rfl⟩
abbrev main_call13_v13 : Ref sig .tc := ⟨.hbm, 371, rfl⟩
abbrev main_call13_v14 : Ref sig .tc := ⟨.hbm, 372, rfl⟩
abbrev main_v65 : Ref sig .tc := ⟨.hbm, 373, rfl⟩
abbrev main_v66 : Ref sig .tc := ⟨.hbm, 374, rfl⟩
abbrev main_v67 : Ref sig .tc := ⟨.hbm, 375, rfl⟩
abbrev main_v68 : Ref sig .tc := ⟨.hbm, 376, rfl⟩
abbrev main_v69 : Ref sig .tc := ⟨.hbm, 377, rfl⟩
abbrev main_v70 : Ref sig .tc := ⟨.hbm, 378, rfl⟩
abbrev main_c_27 : Ref sig .tc := ⟨.hbm, 379, rfl⟩
abbrev main_v71 : Ref sig .tc := ⟨.hbm, 380, rfl⟩
abbrev main_v72 : Ref sig .tc := ⟨.hbm, 381, rfl⟩
abbrev main_v73 : Ref sig .tc := ⟨.hbm, 382, rfl⟩
abbrev main_c_28 : Ref sig .tc := ⟨.hbm, 383, rfl⟩
abbrev main_v74 : Ref sig .tc := ⟨.hbm, 384, rfl⟩
abbrev main_v75 : Ref sig .tc := ⟨.hbm, 385, rfl⟩
abbrev main_v76 : Ref sig .tc := ⟨.hbm, 386, rfl⟩
abbrev main_call14_c : Ref sig .tc := ⟨.hbm, 387, rfl⟩
abbrev main_call14_v0 : Ref sig .tc := ⟨.hbm, 388, rfl⟩
abbrev main_call14_v1 : Ref sig .tc := ⟨.hbm, 389, rfl⟩
abbrev main_call14_c_0 : Ref sig .tc := ⟨.hbm, 390, rfl⟩
abbrev main_call14_v2 : Ref sig .tc := ⟨.hbm, 391, rfl⟩
abbrev main_call14_v3 : Ref sig .tc := ⟨.hbm, 392, rfl⟩
abbrev main_call14_v4 : Ref sig .tc := ⟨.hbm, 393, rfl⟩
abbrev main_call14_v5 : Ref sig .tc := ⟨.hbm, 394, rfl⟩
abbrev main_call14_c_1 : Ref sig .tc := ⟨.hbm, 395, rfl⟩
abbrev main_call14_c_2 : Ref sig .tc := ⟨.hbm, 396, rfl⟩
abbrev main_call14_v6 : Ref sig .tc := ⟨.hbm, 397, rfl⟩
abbrev main_call14_v7 : Ref sig .tc := ⟨.hbm, 398, rfl⟩
abbrev main_call14_v8 : Ref sig .tc := ⟨.hbm, 399, rfl⟩
abbrev main_call14_v9 : Ref sig .tc := ⟨.hbm, 400, rfl⟩
abbrev main_call14_v10 : Ref sig .tc := ⟨.hbm, 401, rfl⟩
abbrev main_call14_v11 : Ref sig .tc := ⟨.hbm, 402, rfl⟩
abbrev main_call14_c_3 : Ref sig .tc := ⟨.hbm, 403, rfl⟩
abbrev main_call14_v12 : Ref sig .tc := ⟨.hbm, 404, rfl⟩
abbrev main_call14_v13 : Ref sig .tc := ⟨.hbm, 405, rfl⟩
abbrev main_call14_v14 : Ref sig .tc := ⟨.hbm, 406, rfl⟩
abbrev main_call14_cst : Ref sig .tc := ⟨.hbm, 407, rfl⟩
abbrev main_call14_v15 : Ref sig .tc := ⟨.hbm, 408, rfl⟩
abbrev main_v77 : Ref sig .tc := ⟨.hbm, 409, rfl⟩
abbrev main_call15_c : Ref sig .tc := ⟨.hbm, 410, rfl⟩
abbrev main_call15_v0 : Ref sig .tc := ⟨.hbm, 411, rfl⟩
abbrev main_call15_v1 : Ref sig .tc := ⟨.hbm, 412, rfl⟩
abbrev main_call15_c_0 : Ref sig .tc := ⟨.hbm, 413, rfl⟩
abbrev main_call15_v2 : Ref sig .tc := ⟨.hbm, 414, rfl⟩
abbrev main_call15_v3 : Ref sig .tc := ⟨.hbm, 415, rfl⟩
abbrev main_call15_v4 : Ref sig .tc := ⟨.hbm, 416, rfl⟩
abbrev main_call15_v5 : Ref sig .tc := ⟨.hbm, 417, rfl⟩
abbrev main_call15_c_1 : Ref sig .tc := ⟨.hbm, 418, rfl⟩
abbrev main_call15_c_2 : Ref sig .tc := ⟨.hbm, 419, rfl⟩
abbrev main_call15_v6 : Ref sig .tc := ⟨.hbm, 420, rfl⟩
abbrev main_call15_v7 : Ref sig .tc := ⟨.hbm, 421, rfl⟩
abbrev main_call15_v8 : Ref sig .tc := ⟨.hbm, 422, rfl⟩
abbrev main_call15_v9 : Ref sig .tc := ⟨.hbm, 423, rfl⟩
abbrev main_call15_v10 : Ref sig .tc := ⟨.hbm, 424, rfl⟩
abbrev main_call15_v11 : Ref sig .tc := ⟨.hbm, 425, rfl⟩
abbrev main_call15_c_3 : Ref sig .tc := ⟨.hbm, 426, rfl⟩
abbrev main_call15_v12 : Ref sig .tc := ⟨.hbm, 427, rfl⟩
abbrev main_call15_v13 : Ref sig .tc := ⟨.hbm, 428, rfl⟩
abbrev main_call15_v14 : Ref sig .tc := ⟨.hbm, 429, rfl⟩
abbrev main_call15_cst : Ref sig .tc := ⟨.hbm, 430, rfl⟩
abbrev main_call15_v15 : Ref sig .tc := ⟨.hbm, 431, rfl⟩
abbrev main_v78 : Ref sig .tc := ⟨.hbm, 432, rfl⟩
abbrev main_cst_29 : Ref sig .tc := ⟨.hbm, 433, rfl⟩
abbrev main_v79 : Ref sig .tc := ⟨.hbm, 434, rfl⟩
abbrev main_v80 : Ref sig .tc := ⟨.hbm, 435, rfl⟩
abbrev main_v81 : Ref sig .tc := ⟨.hbm, 436, rfl⟩
abbrev main_v82 : Ref sig .tc := ⟨.hbm, 437, rfl⟩
abbrev main_v83 : Ref sig .tc := ⟨.hbm, 438, rfl⟩
abbrev main_v84 : Ref sig .tc := ⟨.hbm, 439, rfl⟩
abbrev main_cst_30 : Ref sig .tc := ⟨.hbm, 440, rfl⟩
abbrev main_v85 : Ref sig .tc := ⟨.hbm, 441, rfl⟩
abbrev main_cst_31 : Ref sig .tc := ⟨.hbm, 442, rfl⟩
abbrev main_v86 : Ref sig .tc := ⟨.hbm, 443, rfl⟩
abbrev main_v87 : Ref sig .tc := ⟨.hbm, 444, rfl⟩
abbrev main_v88 : Ref sig .tc := ⟨.hbm, 445, rfl⟩
abbrev main_v89 : Ref sig .tc := ⟨.hbm, 446, rfl⟩
abbrev main_v90 : Ref sig .tc := ⟨.hbm, 447, rfl⟩
abbrev main_v91 : Ref sig .tc := ⟨.hbm, 448, rfl⟩
abbrev main_cst_32 : Ref sig .tc := ⟨.hbm, 449, rfl⟩
abbrev main_v92 : Ref sig .tc := ⟨.hbm, 450, rfl⟩
abbrev main_cst_33 : Ref sig .tc := ⟨.hbm, 451, rfl⟩
abbrev main_v93 : Ref sig .tc := ⟨.hbm, 452, rfl⟩
abbrev main_v94 : Ref sig .tc := ⟨.hbm, 453, rfl⟩
abbrev main_v95 : Ref sig .tc := ⟨.hbm, 454, rfl⟩
abbrev main_v96 : Ref sig .tc := ⟨.hbm, 455, rfl⟩
abbrev main_v97 : Ref sig .tc := ⟨.hbm, 456, rfl⟩
abbrev main_v98 : Ref sig .tc := ⟨.hbm, 457, rfl⟩
abbrev main_v99 : Ref sig .tc := ⟨.hbm, 458, rfl⟩
abbrev main_cst_34 : Ref sig .tc := ⟨.hbm, 459, rfl⟩
abbrev main_v100 : Ref sig .tc := ⟨.hbm, 460, rfl⟩
abbrev main_v101 : Ref sig .tc := ⟨.hbm, 461, rfl⟩
abbrev main_v102 : Ref sig .tc := ⟨.hbm, 462, rfl⟩
abbrev main_v103 : Ref sig .tc := ⟨.hbm, 463, rfl⟩
abbrev main_v104 : Ref sig .tc := ⟨.hbm, 464, rfl⟩
abbrev main_c_35 : Ref sig .tc := ⟨.hbm, 465, rfl⟩
abbrev main_v105 : Ref sig .tc := ⟨.hbm, 466, rfl⟩
abbrev main_v106 : Ref sig .tc := ⟨.hbm, 467, rfl⟩
abbrev main_c_36 : Ref sig .tc := ⟨.hbm, 468, rfl⟩
abbrev main_v107 : Ref sig .tc := ⟨.hbm, 469, rfl⟩
abbrev main_v108 : Ref sig .tc := ⟨.hbm, 470, rfl⟩
abbrev main_v109 : Ref sig .tc := ⟨.hbm, 471, rfl⟩
abbrev main_v110 : Ref sig .tc := ⟨.hbm, 472, rfl⟩
abbrev main_v111 : Ref sig .tc := ⟨.hbm, 473, rfl⟩
abbrev main_call17_c : Ref sig .tc := ⟨.hbm, 474, rfl⟩
abbrev main_call17_v0 : Ref sig .tc := ⟨.hbm, 475, rfl⟩
abbrev main_call17_v1 : Ref sig .tc := ⟨.hbm, 476, rfl⟩
abbrev main_call17_c_0 : Ref sig .tc := ⟨.hbm, 477, rfl⟩
abbrev main_call17_v2 : Ref sig .tc := ⟨.hbm, 478, rfl⟩
abbrev main_call17_v3 : Ref sig .tc := ⟨.hbm, 479, rfl⟩
abbrev main_call17_v4 : Ref sig .tc := ⟨.hbm, 480, rfl⟩
abbrev main_call17_v5 : Ref sig .tc := ⟨.hbm, 481, rfl⟩
abbrev main_call17_c_1 : Ref sig .tc := ⟨.hbm, 482, rfl⟩
abbrev main_call17_c_2 : Ref sig .tc := ⟨.hbm, 483, rfl⟩
abbrev main_call17_v6 : Ref sig .tc := ⟨.hbm, 484, rfl⟩
abbrev main_call17_v7 : Ref sig .tc := ⟨.hbm, 485, rfl⟩
abbrev main_call17_v8 : Ref sig .tc := ⟨.hbm, 486, rfl⟩
abbrev main_call17_v9 : Ref sig .tc := ⟨.hbm, 487, rfl⟩
abbrev main_call17_v10 : Ref sig .tc := ⟨.hbm, 488, rfl⟩
abbrev main_call17_v11 : Ref sig .tc := ⟨.hbm, 489, rfl⟩
abbrev main_call17_c_3 : Ref sig .tc := ⟨.hbm, 490, rfl⟩
abbrev main_call17_v12 : Ref sig .tc := ⟨.hbm, 491, rfl⟩
abbrev main_call17_v13 : Ref sig .tc := ⟨.hbm, 492, rfl⟩
abbrev main_call17_v14 : Ref sig .tc := ⟨.hbm, 493, rfl⟩
abbrev main_call17_cst : Ref sig .tc := ⟨.hbm, 494, rfl⟩
abbrev main_call17_v15 : Ref sig .tc := ⟨.hbm, 495, rfl⟩
abbrev main_v112 : Ref sig .tc := ⟨.hbm, 496, rfl⟩
abbrev main_call18_c : Ref sig .tc := ⟨.hbm, 497, rfl⟩
abbrev main_call18_v0 : Ref sig .tc := ⟨.hbm, 498, rfl⟩
abbrev main_call18_v1 : Ref sig .tc := ⟨.hbm, 499, rfl⟩
abbrev main_call18_c_0 : Ref sig .tc := ⟨.hbm, 500, rfl⟩
abbrev main_call18_v2 : Ref sig .tc := ⟨.hbm, 501, rfl⟩
abbrev main_call18_v3 : Ref sig .tc := ⟨.hbm, 502, rfl⟩
abbrev main_call18_v4 : Ref sig .tc := ⟨.hbm, 503, rfl⟩
abbrev main_call18_v5 : Ref sig .tc := ⟨.hbm, 504, rfl⟩
abbrev main_call18_c_1 : Ref sig .tc := ⟨.hbm, 505, rfl⟩
abbrev main_call18_c_2 : Ref sig .tc := ⟨.hbm, 506, rfl⟩
abbrev main_call18_v6 : Ref sig .tc := ⟨.hbm, 507, rfl⟩
abbrev main_call18_v7 : Ref sig .tc := ⟨.hbm, 508, rfl⟩
abbrev main_call18_v8 : Ref sig .tc := ⟨.hbm, 509, rfl⟩
abbrev main_call18_v9 : Ref sig .tc := ⟨.hbm, 510, rfl⟩
abbrev main_call18_v10 : Ref sig .tc := ⟨.hbm, 511, rfl⟩
abbrev main_call18_v11 : Ref sig .tc := ⟨.hbm, 512, rfl⟩
abbrev main_call18_c_3 : Ref sig .tc := ⟨.hbm, 513, rfl⟩
abbrev main_call18_v12 : Ref sig .tc := ⟨.hbm, 514, rfl⟩
abbrev main_call18_v13 : Ref sig .tc := ⟨.hbm, 515, rfl⟩
abbrev main_call18_v14 : Ref sig .tc := ⟨.hbm, 516, rfl⟩
abbrev main_call18_cst : Ref sig .tc := ⟨.hbm, 517, rfl⟩
abbrev main_call18_v15 : Ref sig .tc := ⟨.hbm, 518, rfl⟩
abbrev main_v113 : Ref sig .tc := ⟨.hbm, 519, rfl⟩
abbrev main_cst_37 : Ref sig .tc := ⟨.hbm, 520, rfl⟩
abbrev main_v114 : Ref sig .tc := ⟨.hbm, 521, rfl⟩
abbrev main_v115 : Ref sig .tc := ⟨.hbm, 522, rfl⟩
abbrev main_v116 : Ref sig .tc := ⟨.hbm, 523, rfl⟩
abbrev main_v117 : Ref sig .tc := ⟨.hbm, 524, rfl⟩
abbrev main_v118 : Ref sig .tc := ⟨.hbm, 525, rfl⟩
abbrev main_v119 : Ref sig .tc := ⟨.hbm, 526, rfl⟩
abbrev main_cst_38 : Ref sig .tc := ⟨.hbm, 527, rfl⟩
abbrev main_v120 : Ref sig .tc := ⟨.hbm, 528, rfl⟩
abbrev main_cst_39 : Ref sig .tc := ⟨.hbm, 529, rfl⟩
abbrev main_v121 : Ref sig .tc := ⟨.hbm, 530, rfl⟩
abbrev main_v122 : Ref sig .tc := ⟨.hbm, 531, rfl⟩
abbrev main_v123 : Ref sig .tc := ⟨.hbm, 532, rfl⟩
abbrev main_v124 : Ref sig .tc := ⟨.hbm, 533, rfl⟩
abbrev main_v125 : Ref sig .tc := ⟨.hbm, 534, rfl⟩
abbrev main_v126 : Ref sig .tc := ⟨.hbm, 535, rfl⟩
abbrev main_cst_40 : Ref sig .tc := ⟨.hbm, 536, rfl⟩
abbrev main_v127 : Ref sig .tc := ⟨.hbm, 537, rfl⟩
abbrev main_cst_41 : Ref sig .tc := ⟨.hbm, 538, rfl⟩
abbrev main_v128 : Ref sig .tc := ⟨.hbm, 539, rfl⟩
abbrev main_v129 : Ref sig .tc := ⟨.hbm, 540, rfl⟩
abbrev main_v130 : Ref sig .tc := ⟨.hbm, 541, rfl⟩
abbrev main_v131 : Ref sig .tc := ⟨.hbm, 542, rfl⟩
abbrev main_v132 : Ref sig .tc := ⟨.hbm, 543, rfl⟩
abbrev main_v133 : Ref sig .tc := ⟨.hbm, 544, rfl⟩
abbrev main_v134 : Ref sig .tc := ⟨.hbm, 545, rfl⟩
abbrev main_cst_42 : Ref sig .tc := ⟨.hbm, 546, rfl⟩
abbrev main_v135 : Ref sig .tc := ⟨.hbm, 547, rfl⟩
abbrev main_v136 : Ref sig .tc := ⟨.hbm, 548, rfl⟩
abbrev main_v137 : Ref sig .tc := ⟨.hbm, 549, rfl⟩
abbrev main_v138 : Ref sig .tc := ⟨.hbm, 550, rfl⟩
abbrev main_v139 : Ref sig .tc := ⟨.hbm, 551, rfl⟩
abbrev main_c_43 : Ref sig .tc := ⟨.hbm, 552, rfl⟩
abbrev main_v140 : Ref sig .tc := ⟨.hbm, 553, rfl⟩
abbrev main_v141 : Ref sig .tc := ⟨.hbm, 554, rfl⟩
abbrev main_c_44 : Ref sig .tc := ⟨.hbm, 555, rfl⟩
abbrev main_v142 : Ref sig .tc := ⟨.hbm, 556, rfl⟩
abbrev main_v143 : Ref sig .tc := ⟨.hbm, 557, rfl⟩
abbrev main_v144 : Ref sig .tc := ⟨.hbm, 558, rfl⟩
abbrev main_v145 : Ref sig .tc := ⟨.hbm, 559, rfl⟩
abbrev main_v146 : Ref sig .tc := ⟨.hbm, 560, rfl⟩
abbrev main_v147 : Ref sig .tc := ⟨.hbm, 561, rfl⟩
abbrev main_call20_v0 : Ref sig .tc := ⟨.hbm, 562, rfl⟩
abbrev main_call20_v1 : Ref sig .tc := ⟨.hbm, 563, rfl⟩
abbrev main_v148 : Ref sig .tc := ⟨.hbm, 564, rfl⟩
abbrev main_v149 : Ref sig .tc := ⟨.hbm, 565, rfl⟩
abbrev main_v150 : Ref sig .tc := ⟨.hbm, 566, rfl⟩
abbrev main_call21_v0 : Ref sig .tc := ⟨.hbm, 567, rfl⟩
abbrev main_call21_v1 : Ref sig .tc := ⟨.hbm, 568, rfl⟩
abbrev main_v151 : Ref sig .tc := ⟨.hbm, 569, rfl⟩
abbrev main_v152 : Ref sig .tc := ⟨.hbm, 570, rfl⟩
abbrev main_v153 : Ref sig .tc := ⟨.hbm, 571, rfl⟩
abbrev main_v154 : Ref sig .tc := ⟨.hbm, 572, rfl⟩
abbrev main_cst_45 : Ref sig .tc := ⟨.hbm, 573, rfl⟩
abbrev main_v155 : Ref sig .tc := ⟨.hbm, 574, rfl⟩
abbrev main_cst_46 : Ref sig .tc := ⟨.hbm, 575, rfl⟩
abbrev main_v156 : Ref sig .tc := ⟨.hbm, 576, rfl⟩
abbrev main_v157 : Ref sig .tc := ⟨.hbm, 577, rfl⟩
abbrev main_cst_47 : Ref sig .tc := ⟨.hbm, 578, rfl⟩
abbrev main_v158 : Ref sig .tc := ⟨.hbm, 579, rfl⟩
abbrev main_v159 : Ref sig .tc := ⟨.hbm, 580, rfl⟩
abbrev main_v160 : Ref sig .tc := ⟨.hbm, 581, rfl⟩
abbrev main_v161 : Ref sig .tc := ⟨.hbm, 582, rfl⟩
abbrev main_v162 : Ref sig .tc := ⟨.hbm, 583, rfl⟩
abbrev main_v163 : Ref sig .tc := ⟨.hbm, 584, rfl⟩
abbrev main_v164 : Ref sig .tc := ⟨.hbm, 585, rfl⟩
abbrev main_v165 : Ref sig .tc := ⟨.hbm, 586, rfl⟩
abbrev main_v166 : Ref sig .tc := ⟨.hbm, 587, rfl⟩
abbrev main_v167 : Ref sig .tc := ⟨.hbm, 588, rfl⟩
abbrev main_v168 : Ref sig .tc := ⟨.hbm, 589, rfl⟩
abbrev main_cst_48 : Ref sig .tc := ⟨.hbm, 590, rfl⟩
abbrev main_v169 : Ref sig .tc := ⟨.hbm, 591, rfl⟩
abbrev main_v170 : Ref sig .tc := ⟨.hbm, 592, rfl⟩
abbrev main_v171 : Ref sig .tc := ⟨.hbm, 593, rfl⟩
abbrev main_v172 : Ref sig .tc := ⟨.hbm, 594, rfl⟩
abbrev main_v173 : Ref sig .tc := ⟨.hbm, 595, rfl⟩
abbrev main_v174 : Ref sig .tc := ⟨.hbm, 596, rfl⟩
abbrev main_v175 : Ref sig .tc := ⟨.hbm, 597, rfl⟩
abbrev main_call22_v0 : Ref sig .tc := ⟨.hbm, 598, rfl⟩
abbrev main_v176 : Ref sig .tc := ⟨.hbm, 599, rfl⟩
abbrev main_call23_v0 : Ref sig .tc := ⟨.hbm, 600, rfl⟩
abbrev main_v177 : Ref sig .tc := ⟨.hbm, 601, rfl⟩
abbrev main_v178 : Ref sig .tc := ⟨.hbm, 602, rfl⟩
abbrev main_v179 : Ref sig .tc := ⟨.hbm, 603, rfl⟩
abbrev main_v180 : Ref sig .tc := ⟨.hbm, 604, rfl⟩
abbrev main_v181 : Ref sig .tc := ⟨.hbm, 605, rfl⟩
abbrev main_v182 : Ref sig .tc := ⟨.hbm, 606, rfl⟩
abbrev main_v183 : Ref sig .tc := ⟨.hbm, 607, rfl⟩
abbrev main_v184 : Ref sig .tc := ⟨.hbm, 608, rfl⟩
abbrev main_v185 : Ref sig .tc := ⟨.hbm, 609, rfl⟩
abbrev main_v186 : Ref sig .tc := ⟨.hbm, 610, rfl⟩
abbrev main_v187 : Ref sig .tc := ⟨.hbm, 611, rfl⟩

abbrev nD : Nat := 1
abbrev τ : Topo := Topo.v7x

variable {F : FTy → Type} [FloatOps F]
-- ==== Proof.Spec.lean ====
module
public import Idealize.ShloMosaic.Lib.ValueIdx
public import Idealize.ShloMosaic.Lib.IdealHost
@[expose] public section
/-! What one sweep does to one picture of angles, in plain mathematics.

A lattice is a function of a row and a column; rows and columns are taken modulo 256. Angles are in radians. A proposal
array and a number array hold one entry per site of one colour: entry (i, m) belongs to the m-th site of that colour in
row i, that is to column 2m or 2m + 1. -/

noncomputable section
namespace Cert.Swap

open Idealize.ShloMosaic

/-- A table of extended reals by row and column. -/
abbrev Lat : Type := ℕ → ℕ → EReal

/-- The factor that turns turns into radians: 2π as a 32-bit float. -/
def turn : EReal := Ideal.ofBits .f32 0x40C90FDB#32

/-- The largest exponent the acceptance test uses: 30. -/
def cap : EReal := Ideal.ofBits .f32 0x41F00000#32

/-- The sum of the cosines between the angle `p`, put at site (i, j), and the four neighbours of that site. -/
def nb (X : Lat) (i j : ℕ) (p : EReal) : EReal :=
  Ideal.cos (p - X ((i + 255) % 256) j) + Ideal.cos (p - X ((i + 1) % 256) j)
    + Ideal.cos (p - X i ((j + 255) % 256)) + Ideal.cos (p - X i ((j + 1) % 256))

/-- The acceptance bit from the old energy, the new energy, the temperature and the random number. -/
def accept (eo en t r : EReal) : BitVec 1 :=
  Scalar.cmpf (F := Ideal) (φ := .f32) .olt r (Ideal.exp (min (Ideal.div (-(en - eo)) t) cap))

/-- The acceptance bit of the site (i, j) whose proposal and number are entry (i, m). -/
def bit (X P R : Lat) (t : EReal) (i j m : ℕ) : BitVec 1 :=
  accept (-nb X i j (X i j)) (-nb X i j (P i m)) t (R i m)

/-- All sites of one colour updated at once against the neighbours, which have the other colour. -/
def step (par : ℕ) (X P R : Lat) (t : EReal) : Lat := fun i j =>
  if (i + j) % 2 = par then Scalar.select (bit X P R t i j (j / 2)) (P i (j / 2)) (X i j) else X i j

/-- One sweep: the black sites, then the white ones. -/
def swept (X PB RB PW RW : Lat) (t : EReal) : Lat := step 1 (step 0 X PB RB t) PW RW t

/-- The energy of a lattice: minus the sum, over the sites, of the cosines to the site below and to the site on the right. -/
def energy (X : Lat) : EReal :=
  -∑ i ∈ Finset.range 256, ∑ j ∈ Finset.range 256,
    (Ideal.cos (X i j - X ((i + 1) % 256) j) + Ideal.cos (X i j - X i ((j + 1) % 256)))

/-- The same energy, as a sum over the white sites of minus the cosines to the four neighbours. -/
def whiteEnergy (X : Lat) : EReal := ∑ i : Fin 256, ∑ m : Fin 128, -nb X i (2 * m + (i + 1) % 2) (X i (2 * m + (i + 1) % 2))

/-- The exchange bit of two neighbouring temperatures. -/
def exchange (t0 t1 e0 e1 r : EReal) : BitVec 1 :=
  Scalar.cmpf (F := Ideal) (φ := .f32) .olt r (Ideal.exp (min ((Ideal.div 1 t0 - Ideal.div 1 t1) * (e0 - e1)) cap))

/-- One of a pair of things: the one asked for, or the other one if the exchange bit is set. -/
def swap {α : Type} (c : BitVec 1) (f : Fin 2 → α) (g : Fin 2) : α := Scalar.select c (f (1 - g)) (f g)

end Cert.Swap
end
-- ==== Proof.Plane.lean ====
module
public import proofs.«01_k».proof.Proof.Spec
public import proofs.«01_k».proof.Proof.Gen.KernelIdeal.Skeleton
public import Idealize.ShloMosaic.Lib.Pipeline.Value
public import Idealize.ShloMosaic.Lib.KernelVsHost
@[expose] public section
/-! One colour of one picture as the kernel keeps it: a plane of 256 rows and 128 columns. -/

noncomputable section
namespace Cert.Swap

open Idealize.ShloMosaic Idealize.ShloMosaic.ValueIdx Cert.KernelIdeal Cert.KernelIdeal.Gen

/-- A vector of 256 rows and 128 columns. -/
abbrev Pl : Type := FVec Ideal S256x128 .f32

/-- The row test on one row number. -/
def rowBit (w : BitVec 32) : BitVec 1 :=
  let v2 : BitVec 32 := Scalar.select (Scalar.cmpi .eq 2#32 0#32) 1#32 2#32
  let v4 := Scalar.remsi w v2
  Scalar.cmpi .eq (Scalar.select (Scalar.andi (Scalar.xori (Scalar.cmpi .slt v4 0#32) (Scalar.cmpi .slt v2 0#32)) (Scalar.cmpi .ne v4 0#32)) (Scalar.addi v4 v2) v4) 0#32

theorem rowBit_eq : ∀ i : Fin 256, rowBit (BitVec.ofNat 32 i.val) = if i.val % 2 = 0 then 1#1 else 0#1 := by decide +kernel

/-- The kernel's row mask is set exactly in the even rows. -/
theorem mask_apply (i : Fin 256) (m : Fin 128) : k0_pay4 (ix2 i m) = if i.val % 2 = 0 then 1#1 else 0#1 := by
  rw [← rowBit_eq i]
  unfold k0_pay4
  have : (iota .tc S256x128 32 [0] iota_S256x128_d0_w32) (ix2 i m) = BitVec.ofNat 32 i.val := iota_single_apply _ _ _ _ _ _
  rw [← this]
  rfl

theorem sel_mask {α : Type} (a b : S256x128.Idx → α) (i : Fin 256) (m : Fin 128) :
    select k0_pay4 a b (ix2 i m) = if i.val % 2 = 0 then a (ix2 i m) else b (ix2 i m) := by
  show Scalar.select (k0_pay4 (ix2 i m)) _ _ = _
  rw [mask_apply]; unfold Scalar.select
  split <;> simp

section Rotations
variable (x : Pl) (i : Fin 256) (m : Fin 128)

theorem rot_up : dynamicRotate 0 1#32 none x rotates_S256x128_d0 (ix2 i m) = x (ix2 ⟨(i.val + 255) % 256, by omega⟩ m) :=
  dynamicRotate_apply _ _ _ _ _ _ fun b => match b with
    | ⟨0, _⟩ => by simp [ix2]
    | ⟨1, _⟩ => by simp [ix2]
theorem rot_down : dynamicRotate 0 255#32 none x rotates_S256x128_d0 (ix2 i m) = x (ix2 ⟨(i.val + 1) % 256, by omega⟩ m) :=
  dynamicRotate_apply _ _ _ _ _ _ fun b => match b with
    | ⟨0, _⟩ => by simp [ix2]
    | ⟨1, _⟩ => by simp [ix2]
theorem rot_left : dynamicRotate 1 1#32 none x rotates_S256x128_d1 (ix2 i m) = x (ix2 i ⟨(m.val + 127) % 128, by omega⟩) :=
  dynamicRotate_apply _ _ _ _ _ _ fun b => match b with
    | ⟨0, _⟩ => by simp [ix2]
    | ⟨1, _⟩ => by simp [ix2]
theorem rot_right : dynamicRotate 1 127#32 none x rotates_S256x128_d1 (ix2 i m) = x (ix2 i ⟨(m.val + 1) % 128, by omega⟩) :=
  dynamicRotate_apply _ _ _ _ _ _ fun b => match b with
    | ⟨0, _⟩ => by simp [ix2]
    | ⟨1, _⟩ => by simp [ix2]
end Rotations

/-- The plane `v` holds, in row i, the sites of the lattice whose column is 2m + (i + par) % 2. -/
def Holds (par : ℕ) (v : Pl) (X : Lat) : Prop := ∀ (i : Fin 256) (m : Fin 128), v (ix2 i m) = X i (2 * m + (i + par) % 2)

/-- The plane `v` holds the table `P` entry by entry. -/
def Is (v : Pl) (P : Lat) : Prop := ∀ (i : Fin 256) (m : Fin 128), v (ix2 i m) = P i m

/-- A plane of the other colour, moved one row, is the upper neighbours … -/
theorem up_apply {par : ℕ} {v : Pl} {X : Lat} (h : Holds (par + 1) v X) (i : Fin 256) (m : Fin 128) :
    dynamicRotate 0 1#32 none v rotates_S256x128_d0 (ix2 i m) = X ((i + 255) % 256) (2 * m + (i + par) % 2) := by
  rw [rot_up, h]; congr 1; simp only; omega
/-- … or the lower ones … -/
theorem down_apply {par : ℕ} {v : Pl} {X : Lat} (h : Holds (par + 1) v X) (i : Fin 256) (m : Fin 128) :
    dynamicRotate 0 255#32 none v rotates_S256x128_d0 (ix2 i m) = X ((i + 1) % 256) (2 * m + (i + par) % 2) := by
  rw [rot_down, h]; congr 1; simp only; omega
/-- … and the black sites' left neighbours are the plane moved one column in the even rows and the plane itself in the
    odd ones … -/
theorem left_black {v : Pl} {X : Lat} (h : Holds 1 v X) (i : Fin 256) (m : Fin 128) :
    select k0_pay4 (dynamicRotate 1 1#32 none v rotates_S256x128_d1) v (ix2 i m) = X i ((2 * m + (i + 0) % 2 + 255) % 256) := by
  rw [sel_mask, rot_left, h, h]; split <;> (congr 1; (try simp only); omega)
/-- … their right neighbours the other way round … -/
theorem right_black {v : Pl} {X : Lat} (h : Holds 1 v X) (i : Fin 256) (m : Fin 128) :
    select k0_pay4 v (dynamicRotate 1 127#32 none v rotates_S256x128_d1) (ix2 i m) = X i ((2 * m + (i + 0) % 2 + 1) % 256) := by
  rw [sel_mask, rot_right, h, h]; split <;> (congr 1; (try simp only); omega)
/-- … and the white sites' neighbours with the rows' parts swapped. -/
theorem left_white {v : Pl} {X : Lat} (h : Holds 2 v X) (i : Fin 256) (m : Fin 128) :
    select k0_pay4 v (dynamicRotate 1 1#32 none v rotates_S256x128_d1) (ix2 i m) = X i ((2 * m + (i + 1) % 2 + 255) % 256) := by
  rw [sel_mask, rot_left, h, h]; split <;> (congr 1; (try simp only); omega)
theorem right_white {v : Pl} {X : Lat} (h : Holds 2 v X) (i : Fin 256) (m : Fin 128) :
    select k0_pay4 (dynamicRotate 1 127#32 none v rotates_S256x128_d1) v (ix2 i m) = X i ((2 * m + (i + 1) % 2 + 1) % 256) := by
  rw [sel_mask, rot_right, h, h]; split <;> (congr 1; (try simp only); omega)

end Cert.Swap
end
-- ==== Proof.Image.lean ====
module
public import proofs.«01_k».proof.Proof.Plane
@[expose] public section
/-! What the kernel does to one picture of its block: the black update, the white update and the energy sum, each read
off the kernel's own expressions. -/

noncomputable section
namespace Cert.Swap

open Idealize.ShloMosaic Idealize.ShloMosaic.ValueIdx Cert.KernelIdeal Cert.KernelIdeal.Gen

theorem zero_pattern : (Scalar.ofBits .f32 0x00000000#32 : Ideal .f32) = 0 := Ideal.ofBits_zero_f32

/-- A plane of turns times the factor is a plane of radians. -/
def rad (v : Pl) : Pl := mulf v (broadcast S256x128 (Scalar.ofBits .f32 0x40C90FDB#32))

theorem rad_apply (v : Pl) (j : S256x128.Idx) : rad v j = v j * turn := rfl

/-- The sum of the cosines to the four neighbours, for the black sites. -/
theorem nb_black {o p : Pl} {X : Lat} (ho : Holds 1 o X) (i : Fin 256) (m : Fin 128) :
    addf (addf (addf (cos (subf p (dynamicRotate 0 1#32 none o rotates_S256x128_d0)))
        (cos (subf p (dynamicRotate 0 255#32 none o rotates_S256x128_d0))))
        (cos (subf p (select k0_pay4 (dynamicRotate 1 1#32 none o rotates_S256x128_d1) o))))
        (cos (subf p (select k0_pay4 o (dynamicRotate 1 127#32 none o rotates_S256x128_d1)))) (ix2 i m)
      = nb X i (2 * m + (i + 0) % 2) (p (ix2 i m)) := by
  show Ideal.cos (_ - dynamicRotate 0 1#32 none o rotates_S256x128_d0 (ix2 i m))
    + Ideal.cos (_ - dynamicRotate 0 255#32 none o rotates_S256x128_d0 (ix2 i m))
    + Ideal.cos (_ - select k0_pay4 (dynamicRotate 1 1#32 none o rotates_S256x128_d1) o (ix2 i m))
    + Ideal.cos (_ - select k0_pay4 o (dynamicRotate 1 127#32 none o rotates_S256x128_d1) (ix2 i m)) = _
  rw [up_apply ho, down_apply ho, left_black ho, right_black ho]; rfl

/-- The same for the white sites. -/
theorem nb_white {o p : Pl} {X : Lat} (ho : Holds 2 o X) (i : Fin 256) (m : Fin 128) :
    addf (addf (addf (cos (subf p (dynamicRotate 0 1#32 none o rotates_S256x128_d0)))
        (cos (subf p (dynamicRotate 0 255#32 none o rotates_S256x128_d0))))
        (cos (subf p (select k0_pay4 o (dynamicRotate 1 1#32 none o rotates_S256x128_d1)))))
        (cos (subf p (select k0_pay4 (dynamicRotate 1 127#32 none o rotates_S256x128_d1) o))) (ix2 i m)
      = nb X i (2 * m + (i + 1) % 2) (p (ix2 i m)) := by
  show Ideal.cos (_ - dynamicRotate 0 1#32 none o rotates_S256x128_d0 (ix2 i m))
    + Ideal.cos (_ - dynamicRotate 0 255#32 none o rotates_S256x128_d0 (ix2 i m))
    + Ideal.cos (_ - select k0_pay4 o (dynamicRotate 1 1#32 none o rotates_S256x128_d1) (ix2 i m))
    + Ideal.cos (_ - select k0_pay4 (dynamicRotate 1 127#32 none o rotates_S256x128_d1) o (ix2 i m)) = _
  rw [up_apply ho, down_apply ho, left_white ho, right_white ho]; rfl

/-- A plane less than nothing is its negation. -/
theorem zero_sub_apply (x : Pl) (j : S256x128.Idx) :
    subf (broadcast S256x128 (Scalar.ofBits .f32 0x00000000#32)) x j = -(x j) := by
  show Ideal.ofBits .f32 0x00000000#32 - x j = _
  rw [Ideal.ofBits_zero_f32, zero_sub]

/-- The acceptance plane reads the acceptance bit of its entries. -/
theorem accept_apply (r eo en : Pl) (t : Ideal .f32) (j : S256x128.Idx) :
    cmpf .olt r (exp (minimumf (divf (subf (broadcast S256x128 (Scalar.ofBits .f32 0x00000000#32)) (subf en eo))
      (broadcast S256x128 t)) (broadcast S256x128 (Scalar.ofBits .f32 0x41F00000#32)))) j
      = accept (eo j) (en j) t (r j) := by
  show Scalar.cmpf (F := Ideal) .olt (r j) (Ideal.exp (min (Ideal.div (subf (broadcast S256x128 (Scalar.ofBits .f32 0x00000000#32)) (subf en eo) j) t) cap)) = _
  rw [zero_sub_apply]; rfl

theorem select_mul (c : BitVec 1) (a b k : EReal) : Scalar.select c a b * k = Scalar.select c (a * k) (b * k) := by
  unfold Scalar.select; split <;> rfl

/-- A block's plane of one picture: the two unit axes dropped. -/
theorem drop_apply (v : Vec Ideal S1x1x256x128 .f32) (i : Fin 256) (m : Fin 128) :
    shapeCast S256x128 v shapeCasts_S1x1x256x128_S256x128 (ix2 i m) = v (ix4 0 0 i m) :=
  shapeCast_apply _ _ _ _ (by
    rw [Shape.rowMajor_val_four, Shape.rowMajor_val_two]
    simp [ix4, ix2])

variable {X PB RB PW RW : Lat} {t : Ideal .f32} {b w pb : Pl} {rb pw rw' : Vec Ideal S1x1x256x128 .f32}

/-- THE BLACK UPDATE. If the two planes hold the lattice, the proposals and the numbers their tables, the kernel's new
    black plane holds the black sites of the lattice after the black step. -/
theorem black_step (hb : Holds 0 (rad b) X) (hw : Holds 1 (rad w) X) (hP : Is (rad pb) PB)
    (hR : ∀ i m, rb (ix4 0 0 i m) = RB i.val m.val) :
    Holds 0 (rad (k0_pay12 k0_pay4 t b w pb rb)) (step 0 X PB RB t) := by
  intro i m
  have e : k0_pay12 k0_pay4 t b w pb rb (ix2 i m)
      = Scalar.select (accept (-nb X i (2 * m + (i + 0) % 2) (rad b (ix2 i m))) (-nb X i (2 * m + (i + 0) % 2) (rad pb (ix2 i m))) t (rb (ix4 0 0 i m)))
        (pb (ix2 i m)) (b (ix2 i m)) := by
    rw [← nb_black hw, ← nb_black hw, ← zero_sub_apply, ← zero_sub_apply, ← drop_apply rb, ← accept_apply]
    rfl
  rw [rad_apply, e, select_mul, ← rad_apply, ← rad_apply, hb, hP, hR]
  unfold step bit
  rw [if_pos (by omega), show (2 * m.val + (i.val + 0) % 2) / 2 = m.val by omega]

/-- The white sites are untouched by the black step … -/
theorem white_kept (hw : Holds 1 (rad w) X) : Holds 1 (rad w) (step 0 X PB RB t) := by
  intro i m
  rw [hw]; unfold step; rw [if_neg (by omega)]

/-- The white sites' energies before … -/
theorem white_old (hb : Holds 2 (rad b) X) (hw : Holds 1 (rad w) X) (i : Fin 256) (m : Fin 128) :
    k0_pay20 k0_pay4 w b (ix2 i m) = -nb X i (2 * m + (i + 1) % 2) (X i (2 * m + (i + 1) % 2)) := by
  rw [← hw, ← nb_white hb, ← zero_sub_apply]; rfl

/-- … and after the proposal. -/
theorem white_new (hb : Holds 2 (rad b) X) (hP : ∀ i m, pw (ix4 0 0 i m) * turn = PW i.val m.val) (i : Fin 256) (m : Fin 128) :
    k0_pay21 k0_pay4 b pw (ix2 i m) = -nb X i (2 * m + (i + 1) % 2) (PW i m) := by
  rw [← hP, ← drop_apply pw, ← rad_apply, ← nb_white hb, ← zero_sub_apply]; rfl

/-- The white sites' acceptance bits. -/
theorem white_bit (hb : Holds 2 (rad b) X) (hw : Holds 1 (rad w) X) (hP : ∀ i m, pw (ix4 0 0 i m) * turn = PW i.val m.val)
    (hR : ∀ i m, rw' (ix4 0 0 i m) = RW i.val m.val) (i : Fin 256) (m : Fin 128) :
    k0_pay23 t (k0_pay14 rw') (k0_pay22 k0_pay4 w b pw) (ix2 i m) = bit X PW RW t i (2 * m + (i + 1) % 2) m := by
  unfold bit
  rw [← white_old hb hw, ← white_new hb hP, ← hR, ← drop_apply rw']
  exact accept_apply _ _ _ _ _

/-- THE WHITE UPDATE: the kernel's new white plane holds the white sites of the lattice after the white step. -/
theorem white_step (hb : Holds 2 (rad b) X) (hw : Holds 1 (rad w) X) (hP : ∀ i m, pw (ix4 0 0 i m) * turn = PW i.val m.val)
    (hR : ∀ i m, rw' (ix4 0 0 i m) = RW i.val m.val) :
    Holds 1 (k0_pay25 t w (k0_pay13 pw) (k0_pay14 rw') (k0_pay22 k0_pay4 w b pw)) (step 1 X PW RW t) := by
  intro i m
  have e : k0_pay25 t w (k0_pay13 pw) (k0_pay14 rw') (k0_pay22 k0_pay4 w b pw) (ix2 i m)
      = Scalar.select (bit X PW RW t i (2 * m + (i + 1) % 2) m) (pw (ix4 0 0 i m)) (w (ix2 i m)) * turn := by
    rw [← white_bit hb hw hP hR, ← drop_apply pw]; rfl
  rw [e, select_mul, hP, ← rad_apply, hw]
  unfold step
  rw [if_pos (by omega), show (2 * m.val + (i.val + 1) % 2) / 2 = m.val by omega]

/-- The black sites are untouched by the white step. -/
theorem black_kept (hb : Holds 0 (rad b) X) : Holds 0 (rad b) (step 1 X PW RW t) := by
  intro i m
  rw [hb]; unfold step; rw [if_neg (by omega)]

theorem holds_two {v : Pl} (h : Holds 0 v X) : Holds 2 v X := fun i m => by rw [h]; congr 1; omega

/-- THE ENERGY SUM: the kernel adds, over the white sites, the energy of the site after its update. -/
theorem energy_sum (hb : Holds 2 (rad b) X) (hw : Holds 1 (rad w) X) (hP : ∀ i m, pw (ix4 0 0 i m) * turn = PW i.val m.val)
    (hR : ∀ i m, rw' (ix4 0 0 i m) = RW i.val m.val) :
    k0_pay26 t (k0_pay14 rw') (k0_pay20 k0_pay4 w b) (k0_pay21 k0_pay4 b pw) (k0_pay22 k0_pay4 w b pw)
      = ∑ i : Fin 256, ∑ m : Fin 128, -nb X i (2 * m + (i + 1) % 2) (step 1 X PW RW t i (2 * m + (i + 1) % 2)) := by
  unfold k0_pay26
  simp only [extractAt]
  rw [shapeCast_apply _ _ _ (ix1 (0 : Fin 1)) (by rw [Shape.rowMajor_val_one, Shape.rowMajor_val_three]; rfl)]
  refine (Ideal.multiReduction_add_total _ _ _ (by intro b; fin_cases b; rfl) _ _ _).trans ?_
  refine (Equiv.sum_comp (Shape.reshapeEquiv _) (select (k0_pay23 t (k0_pay14 rw') (k0_pay22 k0_pay4 w b pw)) (k0_pay21 k0_pay4 b pw) (k0_pay20 k0_pay4 w b))).trans ?_
  rw [sum_idx2]
  refine Finset.sum_congr rfl fun i _ => Finset.sum_congr rfl fun m _ => ?_
  show Scalar.select (k0_pay23 t (k0_pay14 rw') (k0_pay22 k0_pay4 w b pw) (ix2 i m)) (k0_pay21 k0_pay4 b pw (ix2 i m)) (k0_pay20 k0_pay4 w b (ix2 i m)) = _
  rw [white_bit hb hw hP hR, white_new hb hP, white_old hb hw]
  unfold step
  rw [if_pos (by omega), show (2 * m.val + (i.val + 1) % 2) / 2 = m.val by omega]
  unfold Scalar.select; split <;> rfl

end Cert.Swap
end
-- ==== Proof.Move.lean ====
module
public import proofs.«01_k».proof.Proof.Image
@[expose] public section
/-! The two products with tables of ones and zeros: they only move columns. The first splits a picture into its even
and its odd columns, the second puts them back in order. -/

noncomputable section
namespace Cert.Swap

open Idealize.ShloMosaic Idealize.ShloMosaic.ValueIdx Cert.KernelIdeal Cert.KernelIdeal.Gen

/-- A sum of products with a column of a table that has one 1 and zeros elsewhere is the entry at the 1. -/
theorem sum_pick (f : Fin 256 → EReal) (g : Fin 256 → EReal) (a : Fin 256) (hg : ∀ k, g k = if k = a then 1 else 0) :
    ∑ k, f k * g k = f a := by
  simp [hg]

/-- A product into zeros whose right operand has, in column `b`, its one 1 in row `a`, reads the left operand's column `a`. -/
theorem pick_apply {M : ℕ} (d : DotDims ⟨2, ![M, 256]⟩ S256x256 ⟨2, ![M, 256]⟩) (e : d.contr.Idx ≃ Fin 256) (x : FVec Ideal ⟨2, ![M, 256]⟩ .f32)
    (q : FVec Ideal S256x256 .f32) (r : Fin M) (b a : Fin 256)
    (hl : ∀ k, d.lhsIdx (ix2 r b) k = ix2 r (e k)) (hr : ∀ k, d.rhsIdx (ix2 r b) k = ix2 (e k) b)
    (hq : ∀ k : Fin 256, q (ix2 k b) = if k = a then 1 else 0) :
    matmul d (some .fp32) x q (constant ⟨2, ![M, 256]⟩ .f32 0x00000000#32) (ix2 r b) = x (ix2 r a) := by
  simp only [matmul]
  rw [Ideal.matmul_constant_zero_apply]
  simp only [hl, hr]
  exact (Equiv.sum_comp e (fun k => x (ix2 r k) * q (ix2 k b))).trans (sum_pick (fun k => x (ix2 r k)) (fun k => q (ix2 k b)) a hq)

/-- The contraction of the first product runs over 256 columns. -/
def cols1 : dot_S256x256_S256x256_S256x256_1_0_0_1_n_n.contr.Idx ≃ Fin 256 := contrEquiv1 _ 256 rfl rfl
/-- So does the second's. -/
def cols2 : dot_S512x256_S256x256_S512x256_1_0_0_1_n_n.contr.Idx ≃ Fin 256 := contrEquiv1 _ 256 rfl rfl

theorem lhs1 (r b : Fin 256) (k) : dot_S256x256_S256x256_S256x256_1_0_0_1_n_n.lhsIdx (ix2 r b) k = ix2 r (cols1 k) := by
  refine Shape.idx_ext₂ ?_ ?_
  · simp [DotDims.lhsIdx, dot_S256x256_S256x256_S256x256_1_0_0_1_n_n]; rfl
  · simp [DotDims.lhsIdx, dot_S256x256_S256x256_S256x256_1_0_0_1_n_n]; rfl
theorem rhs1 (r b : Fin 256) (k) : dot_S256x256_S256x256_S256x256_1_0_0_1_n_n.rhsIdx (ix2 r b) k = ix2 (cols1 k) b := by
  refine Shape.idx_ext₂ ?_ ?_
  · simp [DotDims.rhsIdx, dot_S256x256_S256x256_S256x256_1_0_0_1_n_n]; rfl
  · simp [DotDims.rhsIdx, dot_S256x256_S256x256_S256x256_1_0_0_1_n_n]; rfl
theorem lhs2 (r : Fin 512) (b : Fin 256) (k) : dot_S512x256_S256x256_S512x256_1_0_0_1_n_n.lhsIdx (ix2 r b) k = ix2 r (cols2 k) := by
  refine Shape.idx_ext₂ ?_ ?_
  · simp [DotDims.lhsIdx, dot_S512x256_S256x256_S512x256_1_0_0_1_n_n]; rfl
  · simp [DotDims.lhsIdx, dot_S512x256_S256x256_S512x256_1_0_0_1_n_n]; rfl
theorem rhs2 (r : Fin 512) (b : Fin 256) (k) : dot_S512x256_S256x256_S512x256_1_0_0_1_n_n.rhsIdx (ix2 r b) k = ix2 (cols2 k) b := by
  refine Shape.idx_ext₂ ?_ ?_
  · simp [DotDims.rhsIdx, dot_S512x256_S256x256_S512x256_1_0_0_1_n_n]; rfl
  · simp [DotDims.rhsIdx, dot_S512x256_S256x256_S512x256_1_0_0_1_n_n]; rfl

/-- The column that position `b` of "even columns first, then odd columns" names. -/
def col (b : ℕ) : ℕ := b / 128 + 2 * (b % 128)

/-- `q` is the table that splits a picture into its even and its odd columns. -/
def Splits (q : FVec Ideal S256x256 .f32) : Prop := ∀ a b : Fin 256, q (ix2 a b) = if a.val = col b then 1 else 0

/-- `q` is the table that puts them back in order. -/
def Merges (q : FVec Ideal S256x256 .f32) : Prop := ∀ a b : Fin 256, q (ix2 a b) = if b.val = col a then 1 else 0

variable {x : Vec Ideal S1x1x256x256 .f32} {q : FVec Ideal S256x256 .f32} {X : Lat}

theorem split_apply (hq : Splits q) (i b : Fin 256) (a : Fin 256) (ha : a.val = col b) : k0_pay6 x q (ix2 i b) = x (ix4 0 0 i a) := by
  unfold k0_pay6
  refine (pick_apply _ cols1 _ q i b a (lhs1 i b) (rhs1 i b) fun k => ?_).trans ?_
  · rw [hq, ← ha]; simp only [Fin.ext_iff]
  · exact shapeCast_apply _ _ _ _ (by rw [Shape.rowMajor_val_four, Shape.rowMajor_val_two]; simp [ix4, ix2])

theorem even_apply (hq : Splits q) (i : Fin 256) (m : Fin 128) : k0_pay7 x q (ix2 i m) = x (ix4 0 0 i ⟨2 * m, by omega⟩) := by
  unfold k0_pay7
  refine (extractStridedSlice_apply _ _ _ _ (ix2 i ⟨m.val, by omega⟩) fun a => ?_).trans (split_apply hq _ _ _ (by simp [col]; omega))
  match a with
  | ⟨0, _⟩ => simp [ix2]
  | ⟨1, _⟩ => simp [ix2]

theorem odd_apply (hq : Splits q) (i : Fin 256) (m : Fin 128) : k0_pay8 x q (ix2 i m) = x (ix4 0 0 i ⟨2 * m + 1, by omega⟩) := by
  unfold k0_pay8
  refine (extractStridedSlice_apply _ _ _ _ (ix2 i ⟨128 + m.val, by omega⟩) fun a => ?_).trans (split_apply hq _ _ _ (by simp [col]; omega))
  match a with
  | ⟨0, _⟩ => simp [ix2]
  | ⟨1, _⟩ => simp [ix2]

/-- The kernel's first plane holds the black sites … -/
theorem black_plane (hq : Splits q) (hx : ∀ i j : Fin 256, x (ix4 0 0 i j) * turn = X i j) : Holds 0 (rad (k0_pay9 x q)) X := by
  intro i m
  rw [rad_apply]; unfold k0_pay9; rw [sel_mask, even_apply hq, odd_apply hq]
  split <;> (rw [hx]; congr 1; (try simp only); omega)

/-- … and its second one the white sites. -/
theorem white_plane (hq : Splits q) (hx : ∀ i j : Fin 256, x (ix4 0 0 i j) * turn = X i j) : Holds 1 (rad (k0_pay10 x q)) X := by
  intro i m
  rw [rad_apply]; unfold k0_pay10; rw [sel_mask, even_apply hq, odd_apply hq]
  split <;> (rw [hx]; congr 1; (try simp only); omega)

/-- Two planes side by side, the even columns on the left. -/
def side (b w : Pl) : FVec Ideal S256x256 .f32 :=
  concatenate S256x256 1 [⟨S256x128, select k0_pay4 b w⟩, ⟨S256x128, select k0_pay4 w b⟩] concatenates_S256x128_S256x128_S256x256_d1

theorem beside_left (u v : Pl) (i a : Fin 256) (h : a.val < 128) :
    concatenate S256x256 1 [⟨S256x128, u⟩, ⟨S256x128, v⟩] concatenates_S256x128_S256x128_S256x256_d1 (ix2 i a) = u (ix2 i ⟨a.val, h⟩) :=
  concatenate_pair_apply_left (t := S256x256) 1 u v concatenates_S256x128_S256x128_S256x256_d1 (ix2 i a) rfl (ix2 i ⟨a.val, h⟩) fun b => match b with
    | ⟨0, _⟩ => rfl
    | ⟨1, _⟩ => rfl
theorem beside_right (u v : Pl) (i a : Fin 256) (h : ¬a.val < 128) :
    concatenate S256x256 1 [⟨S256x128, u⟩, ⟨S256x128, v⟩] concatenates_S256x128_S256x128_S256x256_d1 (ix2 i a)
      = v (ix2 i ⟨a.val - 128, by omega⟩) :=
  concatenate_pair_apply_right (t := S256x256) 1 u v concatenates_S256x128_S256x128_S256x256_d1 (ix2 i a) rfl rfl (ix2 i ⟨a.val - 128, by omega⟩) (fun b hb => match b with
    | ⟨0, _⟩ => rfl
    | ⟨1, _⟩ => absurd rfl hb) (by show a.val - 128 + 128 = a.val; omega)

theorem side_apply {b w : Pl} (hb : Holds 0 b X) (hw : Holds 1 w X) (i a : Fin 256) : side b w (ix2 i a) = X i (col a) := by
  unfold side
  by_cases h : a.val < 128
  · rw [beside_left _ _ _ _ h, sel_mask, hb, hw]
    unfold col; split <;> (congr 1; (try simp only); omega)
  · rw [beside_right _ _ _ _ h, sel_mask, hb, hw]
    unfold col; split <;> (congr 1; (try simp only); omega)

/-- The two pictures of a block, one above the other, put back in order. -/
def merged (b0 w0 b1 w1 : Pl) (q : FVec Ideal S256x256 .f32) : FVec Ideal S512x256 .f32 :=
  matmul dot_S512x256_S256x256_S512x256_1_0_0_1_n_n (some .fp32)
    (concatenate S512x256 0 [⟨S256x256, side b0 w0⟩, ⟨S256x256, side b1 w1⟩] concatenates_S256x256_S256x256_S512x256_d0) q
    (constant S512x256 .f32 0x00000000#32)

theorem above_first (u v : FVec Ideal S256x256 .f32) (i a : Fin 256) :
    concatenate S512x256 0 [⟨S256x256, u⟩, ⟨S256x256, v⟩] concatenates_S256x256_S256x256_S512x256_d0
      (ix2 (⟨i.val, by omega⟩ : Fin 512) a) = u (ix2 i a) :=
  concatenate_pair_apply_left (t := S512x256) 0 u v concatenates_S256x256_S256x256_S512x256_d0 (ix2 (⟨i.val, by omega⟩ : Fin 512) a) rfl (ix2 i a) fun b => match b with
    | ⟨0, _⟩ => rfl
    | ⟨1, _⟩ => rfl
theorem above_second (u v : FVec Ideal S256x256 .f32) (i a : Fin 256) :
    concatenate S512x256 0 [⟨S256x256, u⟩, ⟨S256x256, v⟩] concatenates_S256x256_S256x256_S512x256_d0
      (ix2 (⟨256 + i.val, by omega⟩ : Fin 512) a) = v (ix2 i a) :=
  concatenate_pair_apply_right (t := S512x256) 0 u v concatenates_S256x256_S256x256_S512x256_d0 (ix2 (⟨256 + i.val, by omega⟩ : Fin 512) a) rfl rfl (ix2 i a) (fun b hb => match b with
    | ⟨0, _⟩ => absurd rfl hb
    | ⟨1, _⟩ => rfl) (Nat.add_comm _ _)

/-- The position among "even columns first, then odd columns" of column `j`. -/
theorem merge_pick (hq : Merges q) (j : Fin 256) : ∀ k : Fin 256, q (ix2 k j) = if k = ⟨j.val / 2 + 128 * (j.val % 2), by omega⟩ then 1 else 0 := by
  intro k
  rw [hq]; congr 1; simp only [Fin.ext_iff, col]
  rw [eq_iff_iff]; constructor <;> intro h <;> omega

variable {b0 w0 b1 w1 : Pl} {X0 X1 : Lat}

/-- The first picture of the merged pair is the lattice its planes hold … -/
theorem merged_first (hq : Merges q) (hb : Holds 0 b0 X0) (hw : Holds 1 w0 X0) (i j : Fin 256) :
    extractStridedSlice S256x256 ![0, 0] (merged b0 w0 b1 w1 q) slices_S512x256_o0_0_S256x256 (ix2 i j) = X0 i j := by
  refine (extractStridedSlice_apply _ _ _ _ (ix2 (⟨i.val, by omega⟩ : Fin 512) j) fun a => ?_).trans ?_
  · match a with
    | ⟨0, _⟩ => simp [ix2]
    | ⟨1, _⟩ => simp [ix2]
  unfold merged
  refine (pick_apply _ cols2 _ q _ j _ (lhs2 _ j) (rhs2 _ j) (merge_pick hq j)).trans ?_
  rw [above_first, side_apply hb hw]
  unfold col; congr 1; simp only; omega

/-- … and so is the second. -/
theorem merged_second (hq : Merges q) (hb : Holds 0 b1 X1) (hw : Holds 1 w1 X1) (i j : Fin 256) :
    extractStridedSlice S256x256 ![256, 0] (merged b0 w0 b1 w1 q) slices_S512x256_o256_0_S256x256 (ix2 i j) = X1 i j := by
  refine (extractStridedSlice_apply _ _ _ _ (ix2 (⟨256 + i.val, by omega⟩ : Fin 512) j) fun a => ?_).trans ?_
  · match a with
    | ⟨0, _⟩ => simp [ix2]
    | ⟨1, _⟩ => simp [ix2]
  unfold merged
  refine (pick_apply _ cols2 _ q _ j _ (lhs2 _ j) (rhs2 _ j) (merge_pick hq j)).trans ?_
  rw [above_second, side_apply hb hw]
  unfold col; congr 1; simp only; omega

end Cert.Swap
end
-- ==== Proof.Block.lean ====
module
public import proofs.«01_k».proof.Proof.Move
public import proofs.«01_k».proof.Proof.Gen.KernelIdeal.Frame
@[expose] public section
/-! What one point of the grid leaves in its two output blocks: the two pictures of the pair after the sweep, and their two
energies, exchanged or not. -/

noncomputable section
namespace Cert.Swap

open Idealize.ShloMosaic Idealize.ShloMosaic.ValueIdx Cert.KernelIdeal Cert.KernelIdeal.Gen

/-- The lattice of picture `g` after the sweep. -/
def after (X PB RB PW RW : Fin 2 → Lat) (T : Fin 2 → EReal) (g : Fin 2) : Lat := swept (X g) (PB g) (RB g) (PW g) (RW g) (T g)

/-- The exchange bit of a pair, from the two lattices after the sweep. -/
def pairBit (X PB RB PW RW : Fin 2 → Lat) (T : Fin 2 → EReal) (r : EReal) : BitVec 1 :=
  exchange (T 0) (T 1) (whiteEnergy (after X PB RB PW RW T 0)) (whiteEnergy (after X PB RB PW RW T 1)) r

/-- What the nine input blocks of a point hold. -/
structure Block (x0 : Vec Ideal S2x1x256x256 .f32) (x1 x2 x3 x4 : Vec Ideal S2x1x256x128 .f32) (x5 : Vec Ideal S1x1x1x2 .f32)
    (x6 : Vec Ideal S1x1x1x1 .f32) (x7 x8 : Vec Ideal S256x256 .f32) (X PB RB PW RW : Fin 2 → Lat) (T : Fin 2 → EReal) (r : EReal) : Prop where
  pic : ∀ g (i j : Fin 256), x0 (ix4 g 0 i j) * turn = X g i j
  pb : ∀ g (i : Fin 256) (m : Fin 128), x1 (ix4 g 0 i m) * turn = PB g i m
  rb : ∀ g (i : Fin 256) (m : Fin 128), x2 (ix4 g 0 i m) = RB g i m
  pw : ∀ g (i : Fin 256) (m : Fin 128), x3 (ix4 g 0 i m) * turn = PW g i m
  rw' : ∀ g (i : Fin 256) (m : Fin 128), x4 (ix4 g 0 i m) = RW g i m
  tt : ∀ g, x5 (ix4 0 0 0 g) = T g
  rr : x6 (ix4 0 0 0 0) = r
  sp : Splits x7
  mg : Merges x8

section Loads
variable {α : EltTy → Type}

theorem ld_a0 (x : S2x1x256x256.Idx → EReal) (i j : Fin 256) : x (r0_1.idx (ix4 0 0 i j)) = x (ix4 0 0 i j) :=
  congrArg x (funext fun a => Fin.ext (by
    match a with
    | ⟨0, _⟩ => simp [LoadRect.idx, Rect.unit, ix4]
    | ⟨1, _⟩ => simp [LoadRect.idx, Rect.unit, ix4]
    | ⟨2, _⟩ => simp [LoadRect.idx, Rect.unit, ix4]
    | ⟨3, _⟩ => simp [LoadRect.idx, Rect.unit, ix4]))
theorem ld_a1 (x : S2x1x256x256.Idx → EReal) (i j : Fin 256) : x (r0_5.idx (ix4 0 0 i j)) = x (ix4 1 0 i j) :=
  congrArg x (funext fun a => Fin.ext (by
    match a with
    | ⟨0, _⟩ => simp [LoadRect.idx, Rect.unit, ix4]
    | ⟨1, _⟩ => simp [LoadRect.idx, Rect.unit, ix4]
    | ⟨2, _⟩ => simp [LoadRect.idx, Rect.unit, ix4]
    | ⟨3, _⟩ => simp [LoadRect.idx, Rect.unit, ix4]))
theorem ld_b0 (x : S2x1x256x128.Idx → EReal) (i : Fin 256) (m : Fin 128) : x (r0_3.idx (ix4 0 0 i m)) = x (ix4 0 0 i m) :=
  congrArg x (funext fun a => Fin.ext (by
    match a with
    | ⟨0, _⟩ => simp [LoadRect.idx, Rect.unit, ix4]
    | ⟨1, _⟩ => simp [LoadRect.idx, Rect.unit, ix4]
    | ⟨2, _⟩ => simp [LoadRect.idx, Rect.unit, ix4]
    | ⟨3, _⟩ => simp [LoadRect.idx, Rect.unit, ix4]))
theorem ld_b1 (x : S2x1x256x128.Idx → EReal) (i : Fin 256) (m : Fin 128) : x (r0_6.idx (ix4 0 0 i m)) = x (ix4 1 0 i m) :=
  congrArg x (funext fun a => Fin.ext (by
    match a with
    | ⟨0, _⟩ => simp [LoadRect.idx, Rect.unit, ix4]
    | ⟨1, _⟩ => simp [LoadRect.idx, Rect.unit, ix4]
    | ⟨2, _⟩ => simp [LoadRect.idx, Rect.unit, ix4]
    | ⟨3, _⟩ => simp [LoadRect.idx, Rect.unit, ix4]))
theorem ld_q (x : S256x256.Idx → EReal) : View.ld (Val := Elt Ideal) (e' := .f32) x r0_2 = x :=
  View.ld_unit_zero (by funext a; fin_cases a <;> rfl) _ _
theorem ld_t0 (x : Vec Ideal S1x1x1x2 .f32) : k0_pay5 (View.ld x r0_0) = x (ix4 0 0 0 0) :=
  congrArg x (funext fun a => Fin.ext (by
    match a with
    | ⟨0, _⟩ => rfl
    | ⟨1, _⟩ => rfl
    | ⟨2, _⟩ => rfl
    | ⟨3, _⟩ => rfl))
theorem ld_t1 (x : Vec Ideal S1x1x1x2 .f32) : k0_pay27 (View.ld x r0_4) = x (ix4 0 0 0 1) :=
  congrArg x (funext fun a => Fin.ext (by
    match a with
    | ⟨0, _⟩ => rfl
    | ⟨1, _⟩ => rfl
    | ⟨2, _⟩ => rfl
    | ⟨3, _⟩ => rfl))
theorem ld_r (x : Vec Ideal S1x1x1x1 .f32) : k0_pay52 (View.ld x r0_7) = x (ix4 0 0 0 0) :=
  congrArg x (funext fun a => Fin.ext (by
    match a with
    | ⟨0, _⟩ => rfl
    | ⟨1, _⟩ => rfl
    | ⟨2, _⟩ => rfl
    | ⟨3, _⟩ => rfl))
end Loads

variable {x0 : Vec Ideal S2x1x256x256 .f32} {x1 x2 x3 x4 : Vec Ideal S2x1x256x128 .f32} {x5 : Vec Ideal S1x1x1x2 .f32}
  {x6 : Vec Ideal S1x1x1x1 .f32} {x7 x8 : Vec Ideal S256x256 .f32} {X PB RB PW RW : Fin 2 → Lat} {T : Fin 2 → EReal} {r : EReal}
  (h : Block x0 x1 x2 x3 x4 x5 x6 x7 x8 X PB RB PW RW T r)

include h

/-- The white plane of the first picture as loaded. -/
theorem white0 : Holds 1 (rad (k0_pay56 x0 x1 x2 x3 x4 x5 x6 x7 x8)) (step 0 (X 0) (PB 0) (RB 0) (T 0)) := by
  unfold k0_pay56; rw [ld_q]
  exact white_kept (white_plane h.sp fun i j => (congrArg (· * turn) (ld_a0 x0 i j)).trans (h.pic 0 i j))

/-- The black plane of the first picture after the black step. -/
theorem black0 : Holds 0 (rad (k0_pay57 x0 x1 x2 x3 x4 x5 x6 x7 x8)) (step 0 (X 0) (PB 0) (RB 0) (T 0)) := by
  unfold k0_pay57 k0_pay56 k0_pay55; rw [ld_q, ld_t0, h.tt]
  have hx := fun i j => (congrArg (· * turn) (ld_a0 x0 i j)).trans (h.pic 0 i j)
  refine black_step (black_plane h.sp hx) (white_plane h.sp hx) (fun i m => ?_) fun i m => (ld_b0 x2 i m).trans (h.rb 0 i m)
  rw [← h.pb, rad_apply]; unfold k0_pay11; rw [drop_apply]; exact congrArg (· * turn) (ld_b0 x1 i m)

/-- The white plane of the second picture as loaded. -/
theorem white1 : Holds 1 (rad (k0_pay64 x0 x1 x2 x3 x4 x5 x6 x7 x8)) (step 0 (X 1) (PB 1) (RB 1) (T 1)) := by
  unfold k0_pay64 k0_pay55; rw [ld_q]
  exact white_kept (white_plane h.sp fun i j => (congrArg (· * turn) (ld_a1 x0 i j)).trans (h.pic 1 i j))

/-- The black plane of the second picture after the black step. -/
theorem black1 : Holds 0 (rad (k0_pay65 x0 x1 x2 x3 x4 x5 x6 x7 x8)) (step 0 (X 1) (PB 1) (RB 1) (T 1)) := by
  unfold k0_pay65 k0_pay64 k0_pay55; rw [ld_q, ld_t1, h.tt]
  have hx := fun i j => (congrArg (· * turn) (ld_a1 x0 i j)).trans (h.pic 1 i j)
  refine black_step (pb := k0_pay33 (View.ld x1 r0_6)) (rb := View.ld x2 r0_6) (black_plane h.sp hx) (white_plane h.sp hx) (fun i m => ?_)
    fun i m => (ld_b1 x2 i m).trans (h.rb 1 i m)
  rw [← h.pb, rad_apply]; unfold k0_pay33; rw [drop_apply]; exact congrArg (· * turn) (ld_b1 x1 i m)

theorem pw0 (i : Fin 256) (m : Fin 128) : View.ld x3 r0_3 (ix4 0 0 i m) * turn = PW 0 i m :=
  (congrArg (· * turn) (ld_b0 x3 i m)).trans (h.pw 0 i m)
theorem pw1 (i : Fin 256) (m : Fin 128) : View.ld x3 r0_6 (ix4 0 0 i m) * turn = PW 1 i m :=
  (congrArg (· * turn) (ld_b1 x3 i m)).trans (h.pw 1 i m)
theorem rw0 (i : Fin 256) (m : Fin 128) : View.ld x4 r0_3 (ix4 0 0 i m) = RW 0 i m := (ld_b0 x4 i m).trans (h.rw' 0 i m)
theorem rw1 (i : Fin 256) (m : Fin 128) : View.ld x4 r0_6 (ix4 0 0 i m) = RW 1 i m := (ld_b1 x4 i m).trans (h.rw' 1 i m)

/-- The first picture's merged planes are the lattice after the sweep. -/
theorem full0 (i j : Fin 256) : k0_pay71 x0 x1 x2 x3 x4 x5 x6 x7 x8 (ix2 i j) = after X PB RB PW RW T 0 i j := by
  have hb : Holds 0 (k0_pay62 x0 x1 x2 x3 x4 x5 x6 x7 x8) (after X PB RB PW RW T 0) := black_kept (black0 h)
  have hw : Holds 1 (k0_pay63 x0 x1 x2 x3 x4 x5 x6 x7 x8) (after X PB RB PW RW T 0) := by
    unfold k0_pay63; rw [ld_t0, h.tt]
    exact white_step (holds_two (black0 h)) (white0 h) (pw0 h) (rw0 h)
  exact (congrFun (by unfold k0_pay71; rw [ld_q]; rfl) (ix2 i j)).trans
    (merged_first (b1 := rad (k0_pay65 x0 x1 x2 x3 x4 x5 x6 x7 x8))
      (w1 := rad (select (k0_pay47 (k0_pay67 x0 x1 x2 x3 x4 x5 x6 x7 x8) (k0_pay70 x0 x1 x2 x3 x4 x5 x6 x7 x8)) (k0_pay66 x0 x1 x2 x3 x4 x5 x6 x7 x8) (k0_pay64 x0 x1 x2 x3 x4 x5 x6 x7 x8)))
      h.mg hb hw i j)

/-- The second one's likewise. -/
theorem full1 (i j : Fin 256) : k0_pay72 x0 x1 x2 x3 x4 x5 x6 x7 x8 (ix2 i j) = after X PB RB PW RW T 1 i j := by
  have hb : Holds 0 (rad (k0_pay65 x0 x1 x2 x3 x4 x5 x6 x7 x8)) (after X PB RB PW RW T 1) := black_kept (black1 h)
  have hw : Holds 1 (rad (select (k0_pay47 (k0_pay67 x0 x1 x2 x3 x4 x5 x6 x7 x8) (k0_pay70 x0 x1 x2 x3 x4 x5 x6 x7 x8)) (k0_pay66 x0 x1 x2 x3 x4 x5 x6 x7 x8) (k0_pay64 x0 x1 x2 x3 x4 x5 x6 x7 x8))) (after X PB RB PW RW T 1) := by
    unfold k0_pay70; rw [ld_t1, h.tt]
    exact white_step (holds_two (black1 h)) (white1 h) (pw1 h) (rw1 h)
  exact (congrFun (by unfold k0_pay72; rw [ld_q]; rfl) (ix2 i j)).trans
    (merged_second (b0 := k0_pay62 x0 x1 x2 x3 x4 x5 x6 x7 x8) (w0 := k0_pay63 x0 x1 x2 x3 x4 x5 x6 x7 x8) h.mg hb hw i j)

/-- At a white site the sum of the cosines is the same before and after the white step: the neighbours are black. -/
theorem white_sum (g : Fin 2) : (∑ i : Fin 256, ∑ m : Fin 128, -nb (step 0 (X g) (PB g) (RB g) (T g)) i (2 * m + (i + 1) % 2)
      (step 1 (step 0 (X g) (PB g) (RB g) (T g)) (PW g) (RW g) (T g) i (2 * m + (i + 1) % 2)))
    = whiteEnergy (after X PB RB PW RW T g) := by
  refine Finset.sum_congr rfl fun i _ => Finset.sum_congr rfl fun m _ => ?_
  have e : ∀ a b : ℕ, (a + b) % 2 = 0 → step 0 (X g) (PB g) (RB g) (T g) a b = after X PB RB PW RW T g a b := by
    intro a b hab
    show _ = step 1 _ _ _ _ a b
    unfold step; rw [if_neg (show ¬(a + b) % 2 = 1 by omega)]
  unfold nb
  rw [e _ _ (by omega), e _ _ (by omega), e _ _ (by omega), e _ _ (by omega)]
  rfl

/-- The kernel's energy of the first picture … -/
theorem energy0 : k0_pay26 (k0_pay5 (View.ld x5 r0_0)) (k0_pay58 x0 x1 x2 x3 x4 x5 x6 x7 x8) (k0_pay59 x0 x1 x2 x3 x4 x5 x6 x7 x8)
    (k0_pay60 x0 x1 x2 x3 x4 x5 x6 x7 x8) (k0_pay61 x0 x1 x2 x3 x4 x5 x6 x7 x8) = whiteEnergy (after X PB RB PW RW T 0) := by
  rw [ld_t0, h.tt, ← white_sum h]
  exact energy_sum (holds_two (black0 h)) (white0 h) (pw0 h) (rw0 h)

/-- … and of the second. -/
theorem energy1 : k0_pay48 (k0_pay67 x0 x1 x2 x3 x4 x5 x6 x7 x8) (k0_pay68 x0 x1 x2 x3 x4 x5 x6 x7 x8)
    (k0_pay69 x0 x1 x2 x3 x4 x5 x6 x7 x8) (k0_pay70 x0 x1 x2 x3 x4 x5 x6 x7 x8) = whiteEnergy (after X PB RB PW RW T 1) := by
  rw [← white_sum h]
  unfold k0_pay70; rw [ld_t1, h.tt]
  exact energy_sum (holds_two (black1 h)) (white1 h) (pw1 h) (rw1 h)

/-- The exchange bit of a pair of pictures. -/
theorem exchange_eq : Scalar.cmpf .olt (k0_pay52 (View.ld x6 r0_7)) (k0_pay53 (k0_pay5 (View.ld x5 r0_0))
      (k0_pay26 (k0_pay5 (View.ld x5 r0_0)) (k0_pay58 x0 x1 x2 x3 x4 x5 x6 x7 x8) (k0_pay59 x0 x1 x2 x3 x4 x5 x6 x7 x8)
        (k0_pay60 x0 x1 x2 x3 x4 x5 x6 x7 x8) (k0_pay61 x0 x1 x2 x3 x4 x5 x6 x7 x8)) (k0_pay27 (View.ld x5 r0_4))
      (k0_pay67 x0 x1 x2 x3 x4 x5 x6 x7 x8) (k0_pay68 x0 x1 x2 x3 x4 x5 x6 x7 x8) (k0_pay69 x0 x1 x2 x3 x4 x5 x6 x7 x8) (k0_pay70 x0 x1 x2 x3 x4 x5 x6 x7 x8))
    = exchange (T 0) (T 1) (whiteEnergy (after X PB RB PW RW T 0)) (whiteEnergy (after X PB RB PW RW T 1)) r := by
  rw [energy0 h, ld_r, h.rr]
  unfold k0_pay53
  rw [energy1 h, ld_t0, ld_t1, h.tt, h.tt]
  unfold exchange
  rw [← Ideal.ofBits_one_f32]; rfl

omit h in
/-- A whole plane picked by one bit, read at a place. -/
theorem select_at {ι : Type} (c : BitVec 1) (a b : ι → EReal) (j : ι) : (Scalar.select c a b) j = Scalar.select c (a j) (b j) := by
  unfold Scalar.select; split <;> rfl

omit h in
/-- A plane stored into one picture's place of a block: two unit axes added. -/
theorem store_apply (v : Vec Ideal S256x256 .f32) (x : S1x1x256x256.Idx) :
    shapeCast S1x1x256x256 v shapeCasts_S256x256_S1x1x256x256 x = v (ix2 (x 2) (x 3)) :=
  shapeCast_apply _ _ _ _ (by
    rw [Shape.rowMajor_val_four, Shape.rowMajor_val_two]
    have h0 : (x 0).val = 0 := Nat.lt_one_iff.mp (x 0).isLt
    have h1 : (x 1).val = 0 := Nat.lt_one_iff.mp (x 1).isLt
    simp [ix2, h0, h1])

/-- WHAT THE POINT WRITES: the pair of pictures … -/
theorem out_pictures (g : Fin 2) (i j : Fin 256) : out0_9 x0 x1 x2 x3 x4 x5 x6 x7 x8 (ix4 g 0 i j)
    = swap (pairBit X PB RB PW RW T r) (fun g => after X PB RB PW RW T g i j) g := by
  unfold out0_9
  rw [exchange_eq h]
  refine View.canon_apply_of_pieces (Val := Elt Ideal) (S := S2x1x256x256) (e := .f32)
    (fun y => swap (α := EReal) (pairBit X PB RB PW RW T r) (fun g => after X PB RB PW RW T g (y 2).val (y 3).val) (y 0)) _ ?_ _ (cover0_9 _ _ _)
  intro p hp
  rcases List.mem_cons.mp hp with rfl | hp
  · intro x
    have h0 : x 0 = (0 : Fin 1) := Subsingleton.elim (α := Fin 1) _ _
    have e2 : (r0_5.idx x 2).val = (x 2).val := by simp [LoadRect.idx, Rect.unit]
    have e3 : (r0_5.idx x 3).val = (x 3).val := by simp [LoadRect.idx, Rect.unit]
    have e0 : r0_5.idx x 0 = (1 : Fin 2) := Fin.ext (by simp [LoadRect.idx, Rect.unit, h0])
    show k0_pay3 (F := Ideal) _ _ _ x = swap (α := EReal) _ (fun g => after X PB RB PW RW T g (r0_5.idx x 2).val (r0_5.idx x 3).val) (r0_5.idx x 0)
    rw [e0, e2, e3]
    refine (store_apply _ x).trans ?_
    refine (select_at _ _ _ _).trans ?_
    rw [full0 h (x 2) (x 3), full1 h (x 2) (x 3)]; rfl
  · obtain rfl := List.mem_singleton.mp hp
    intro x
    have h0 : x 0 = (0 : Fin 1) := Subsingleton.elim (α := Fin 1) _ _
    have e2 : (r0_1.idx x 2).val = (x 2).val := by simp [LoadRect.idx, Rect.unit]
    have e3 : (r0_1.idx x 3).val = (x 3).val := by simp [LoadRect.idx, Rect.unit]
    have e0 : r0_1.idx x 0 = (0 : Fin 2) := Fin.ext (by simp [LoadRect.idx, Rect.unit, h0])
    show k0_pay2 (F := Ideal) _ _ _ x = swap (α := EReal) _ (fun g => after X PB RB PW RW T g (r0_1.idx x 2).val (r0_1.idx x 3).val) (r0_1.idx x 0)
    rw [e0, e2, e3]
    refine (store_apply _ x).trans ?_
    refine (select_at _ _ _ _).trans ?_
    rw [full0 h (x 2) (x 3), full1 h (x 2) (x 3)]; rfl

/-- … and the pair of energies, repeated over its block. -/
theorem out_energies (g : Fin 2) (a : Fin 8) (b : Fin 128) : out0_10 x0 x1 x2 x3 x4 x5 x6 x7 x8 (ix5 0 0 g a b)
    = swap (pairBit X PB RB PW RW T r) (fun g => whiteEnergy (after X PB RB PW RW T g)) g := by
  unfold out0_10 k0_pay54
  have hx := exchange_eq h
  rw [energy0 h] at hx
  simp only [energy0 h, energy1 h, hx]
  refine View.canon_apply_of_pieces (Val := Elt Ideal) (S := S1x1x2x8x128) (e := .f32)
    (fun y => swap (α := EReal) (pairBit X PB RB PW RW T r) (fun g => whiteEnergy (after X PB RB PW RW T g)) (y 2)) _ ?_ _ (cover0_10 _ _ _)
  intro p hp
  rcases List.mem_cons.mp hp with rfl | hp
  · intro x
    have h0 : x 2 = (0 : Fin 1) := Subsingleton.elim (α := Fin 1) _ _
    have e0 : r0_9.idx x 2 = (1 : Fin 2) := Fin.ext (by simp [LoadRect.idx, Rect.unit, h0])
    show _ = swap (α := EReal) _ _ (r0_9.idx x 2)
    rw [e0]; rfl
  · obtain rfl := List.mem_singleton.mp hp
    intro x
    have h0 : x 2 = (0 : Fin 1) := Subsingleton.elim (α := Fin 1) _ _
    have e0 : r0_8.idx x 2 = (0 : Fin 2) := Fin.ext (by simp [LoadRect.idx, Rect.unit, h0])
    show _ = swap (α := EReal) _ _ (r0_8.idx x 2)
    rw [e0]; rfl

end Cert.Swap
end
-- ==== Proof.Sweep.lean ====
module
public import proofs.«01_k».proof.Proof.Spec
@[expose] public section
/-! The two results as functions of the seven arguments: every picture is swept, then the two temperatures of every
pair exchange their pictures, or keep them. -/

noncomputable section
namespace Cert.Swap

open Idealize.ShloMosaic Idealize.ShloMosaic.ValueIdx

/-- The pictures, the numbers of one colour, one number per temperature, one number per temperature and chain, one per pair and chain. -/
abbrev Pics : Type := (⟨4, ![32, 8, 256, 256]⟩ : Shape).Idx → EReal
abbrev Halves : Type := (⟨3, ![32, 8, 32768]⟩ : Shape).Idx → EReal
abbrev Temps : Type := (⟨1, ![32]⟩ : Shape).Idx → EReal
abbrev Ens : Type := (⟨2, ![32, 8]⟩ : Shape).Idx → EReal
abbrev Draws : Type := (⟨2, ![16, 8]⟩ : Shape).Idx → EReal

/-- Picture `c` at temperature `b`, in radians. -/
def pic (a : Pics) (b : Fin 32) (c : Fin 8) : Lat := fun i j => a (ix4 b c (Fin.ofNat 256 i) (Fin.ofNat 256 j)) * turn

/-- The entries of one colour that belong to that picture. -/
def half (a : Halves) (b : Fin 32) (c : Fin 8) : Lat := fun i m => a (ix3 b c (Fin.ofNat 32768 (i * 128 + m)))

/-- The same in radians. -/
def halfTurned (a : Halves) (b : Fin 32) (c : Fin 8) : Lat := fun i m => half a b c i m * turn

/-- The `g`-th temperature of pair `p`. -/
def bat (p : Fin 16) (g : Fin 2) : Fin 32 := ⟨2 * p.val + g.val, by omega⟩

/-- The picture after the sweep. -/
def sweepOf (a0 : Pics) (a1 : Temps) (a2 a3 a4 a5 : Halves) (b : Fin 32) (c : Fin 8) : Lat :=
  swept (pic a0 b c) (halfTurned a2 b c) (half a3 b c) (halfTurned a4 b c) (half a5 b c) (a1 (ix1 b))

/-- Whether pair `p` exchanges its pictures of chain `c`. -/
def exchanged (a0 : Pics) (a1 : Temps) (a2 a3 a4 a5 : Halves) (a6 : Draws) (p : Fin 16) (c : Fin 8) : BitVec 1 :=
  exchange (a1 (ix1 (bat p 0))) (a1 (ix1 (bat p 1))) (energy (sweepOf a0 a1 a2 a3 a4 a5 (bat p 0) c))
    (energy (sweepOf a0 a1 a2 a3 a4 a5 (bat p 1) c)) (a6 (ix2 p c))

/-- The pair of a temperature, and its place in the pair. -/
def pairOf (b : Fin 32) : Fin 16 := ⟨b.val / 2, by omega⟩
def sideOf (b : Fin 32) : Fin 2 := ⟨b.val % 2, by omega⟩

/-- The first result: the pictures. -/
def picsOut (a0 : Pics) (a1 : Temps) (a2 a3 a4 a5 : Halves) (a6 : Draws) : Pics := fun i =>
  swap (exchanged a0 a1 a2 a3 a4 a5 a6 (pairOf (i 0)) (i 1)) (fun g => sweepOf a0 a1 a2 a3 a4 a5 (bat (pairOf (i 0)) g) (i 1) (i 2).val (i 3).val)
    (sideOf (i 0))

/-- The second result: the energies. -/
def ensOut (a0 : Pics) (a1 : Temps) (a2 a3 a4 a5 : Halves) (a6 : Draws) : Ens := fun i =>
  swap (exchanged a0 a1 a2 a3 a4 a5 a6 (pairOf (i 0)) (i 1)) (fun g => energy (sweepOf a0 a1 a2 a3 a4 a5 (bat (pairOf (i 0)) g) (i 1)))
    (sideOf (i 0))

theorem bat_pair (b : Fin 32) : bat (pairOf b) (sideOf b) = b := Fin.ext (Nat.div_add_mod b.val 2)

theorem ofNat_self {n : ℕ} [NeZero n] (i : Fin n) : Fin.ofNat n i.val = i := Fin.ext (Nat.mod_eq_of_lt i.isLt)

end Cert.Swap
end
-- ==== Proof.TableSplit.lean ====
module
public import proofs.«01_k».proof.KernelIdeal
@[expose] public section
/-! The kernel's first constant table, read as a matrix. -/
set_option maxHeartbeats 0
noncomputable section
namespace Cert.Swap

/-- The table that splits a plane into its even and its odd columns: entry (a, b) is one exactly where `a` is the column
    that position `b` of "even columns first, then odd columns" names, and zero elsewhere. The rows are looked through in
    eight groups of 32: row `a` of group `k` is row 32 k + a. -/
theorem split_word (k : Fin 8) : ∀ (a : Fin 32) (b : Fin 256), Cert.KernelIdeal.lit0t ((k.val * 32 + a.val) * 256 + b.val)
    = if k.val * 32 + a.val = b.val / 128 + 2 * (b.val % 128) then 0x3F800000#32 else 0#32 := by
  fin_cases k <;> decide +kernel

end Cert.Swap
end
-- ==== Proof.TableMerge.lean ====
module
public import proofs.«01_k».proof.KernelIdeal
@[expose] public section
/-! The kernel's second constant table, read as a matrix. -/
set_option maxHeartbeats 0
noncomputable section
namespace Cert.Swap

/-- The table that puts even and odd columns back in order: entry (a, b) is one exactly where `b` is the column that
    position `a` of "even columns first, then odd columns" names, and zero elsewhere. The rows are looked through in
    eight groups of 32: row `a` of group `k` is row 32 k + a. -/
theorem merge_word (k : Fin 8) : ∀ (a : Fin 32) (b : Fin 256), Cert.KernelIdeal.lit1t ((k.val * 32 + a.val) * 256 + b.val)
    = if b.val = (k.val * 32 + a.val) / 128 + 2 * ((k.val * 32 + a.val) % 128) then 0x3F800000#32 else 0#32 := by
  fin_cases k <;> decide +kernel

end Cert.Swap
end
-- ==== Proof.Blocks.lean ====
module
public import proofs.«01_k».proof.Proof.Block
public import proofs.«01_k».proof.Proof.Sweep
public import proofs.«01_k».proof.Proof.TableSplit
public import proofs.«01_k».proof.Proof.TableMerge
public import Idealize.ShloMosaic.Lib.Pipeline.Value
public import Idealize.ShloMosaic.Lib.Claim
@[expose] public section
/-! What the nine input blocks of a grid point hold, in terms of the seven arguments: point `t` of the 16 by 8 grid works on
pair `t / 8` of chain `t % 8`. -/

noncomputable section
namespace Cert.Swap

open Idealize.ShloMosaic Idealize.ShloMosaic.ValueIdx Cert.KernelIdeal Cert.KernelIdeal.Gen
open Idealize.ShloMosaic.TcCoe Idealize.SL.Sem

/-- The pair a grid point works on. -/
def pairAt (t : Fin cfg0.N) : Fin 16 := ⟨t.val / 8, by have h : t.val < 128 := t.isLt; omega⟩

/-- The chain a grid point works on. -/
def chainAt (t : Fin cfg0.N) : Fin 8 := ⟨t.val % 8, by omega⟩

/-- Where the blocks of the eleven windows start. -/
theorem place0 : ∀ t : Fin grid0.N, win0_0.index t 0 = t.val / 8 ∧ win0_0.index t 1 = t.val % 8 ∧ win0_0.index t 2 = 0 ∧ win0_0.index t 3 = 0 := by
  decide +kernel
theorem place1 : ∀ t : Fin grid0.N, win0_1.index t 0 = t.val / 8 ∧ win0_1.index t 1 = t.val % 8 ∧ win0_1.index t 2 = 0 ∧ win0_1.index t 3 = 0 := by
  decide +kernel
theorem place2 : ∀ t : Fin grid0.N, win0_2.index t 0 = t.val / 8 ∧ win0_2.index t 1 = t.val % 8 ∧ win0_2.index t 2 = 0 ∧ win0_2.index t 3 = 0 := by
  decide +kernel
theorem place3 : ∀ t : Fin grid0.N, win0_3.index t 0 = t.val / 8 ∧ win0_3.index t 1 = t.val % 8 ∧ win0_3.index t 2 = 0 ∧ win0_3.index t 3 = 0 := by
  decide +kernel
theorem place4 : ∀ t : Fin grid0.N, win0_4.index t 0 = t.val / 8 ∧ win0_4.index t 1 = t.val % 8 ∧ win0_4.index t 2 = 0 ∧ win0_4.index t 3 = 0 := by
  decide +kernel
theorem place5 : ∀ t : Fin grid0.N, win0_5.index t 0 = t.val / 8 ∧ win0_5.index t 1 = 0 ∧ win0_5.index t 2 = 0 ∧ win0_5.index t 3 = 0 := by
  decide +kernel
theorem place6 : ∀ t : Fin grid0.N, win0_6.index t 0 = t.val / 8 ∧ win0_6.index t 1 = t.val % 8 ∧ win0_6.index t 2 = 0 ∧ win0_6.index t 3 = 0 := by
  decide +kernel
theorem place7 : ∀ t : Fin grid0.N, win0_7.index t 0 = 0 ∧ win0_7.index t 1 = 0 := by decide +kernel
theorem place8 : ∀ t : Fin grid0.N, win0_8.index t 0 = 0 ∧ win0_8.index t 1 = 0 := by decide +kernel
theorem place9 : ∀ t : Fin grid0.N, win0_9.index t 0 = t.val / 8 ∧ win0_9.index t 1 = t.val % 8 ∧ win0_9.index t 2 = 0 ∧ win0_9.index t 3 = 0 := by
  decide +kernel
theorem place10 : ∀ t : Fin grid0.N, win0_10.index t 0 = t.val / 8 ∧ win0_10.index t 1 = t.val % 8 ∧ win0_10.index t 2 = 0 ∧ win0_10.index t 3 = 0
    ∧ win0_10.index t 4 = 0 := by
  decide +kernel

variable (m : (ℓ : Loc nD τ sig) → Buf (Elt Ideal) ℓ) (d : Dev nD)

/-- The seven arguments. -/
abbrev in0 : Pics := m ((d : Thread nD τ).loc main_arg0)
abbrev in1 : Temps := m ((d : Thread nD τ).loc main_arg1)
abbrev in2 : Halves := m ((d : Thread nD τ).loc main_arg2)
abbrev in3 : Halves := m ((d : Thread nD τ).loc main_arg3)
abbrev in4 : Halves := m ((d : Thread nD τ).loc main_arg4)
abbrev in5 : Halves := m ((d : Thread nD τ).loc main_arg5)
abbrev in6 : Draws := m ((d : Thread nD τ).loc main_arg6)

/-- A half-lattice array reshaped to rows, read at a site. -/
theorem rows_apply (x : Vec Ideal S32x8x32768 .f32) (b : Fin 32) (c : Fin 8) (i : Fin 256) (k : Fin 128) :
    shapeCast S32x8x256x128 x shapeCasts_S32x8x32768_S32x8x256x128 (ix4 b c i k) = half x b c i k := by
  refine (shapeCast_apply _ _ _ (ix3 b c (Fin.ofNat 32768 (i.val * 128 + k.val))) ?_).trans rfl
  rw [Shape.rowMajor_val_three, Shape.rowMajor_val_four]
  have hi := i.isLt
  have hk := k.isLt
  simp [ix3, ix4, Fin.ofNat]
  omega

theorem temps_apply (x : Vec Ideal S32 .f32) (p : Fin 16) (g : Fin 2) :
    shapeCast S16x1x1x2 x shapeCasts_S32_S16x1x1x2 (ix4 p 0 0 g) = x (ix1 (bat p g)) := by
  refine shapeCast_apply _ _ _ (ix1 (bat p g)) ?_
  rw [Shape.rowMajor_val_one, Shape.rowMajor_val_four]
  simp [ix1, ix4, bat]
  omega

theorem draws_apply (x : Vec Ideal S16x8 .f32) (p : Fin 16) (c : Fin 8) :
    shapeCast S16x8x1x1 x shapeCasts_S16x8_S16x8x1x1 (ix4 p c 0 0) = x (ix2 p c) := by
  refine shapeCast_apply _ _ _ (ix2 p c) ?_
  rw [Shape.rowMajor_val_two, Shape.rowMajor_val_four]
  simp [ix2, ix4]

/-- Where an index inside a block of pictures lies in the array. -/
theorem emb0 (t : Fin cfg0.N) (g : Fin 2) (i j : Fin 256) :
    (win0_0.rect t).emb (ix4 g 0 i j) = ix4 (bat (pairAt t) g) (chainAt t) i j := by
  obtain ⟨e0, e1, e2, e3⟩ := place0 t
  refine funext fun a => Fin.ext ?_
  refine (Pipeline.Window.rect_emb_val win0_0 t (ix4 g 0 i j) a).trans ?_
  match a with
  | ⟨0, _⟩ => exact (by omega : win0_0.index t 0 * 2 + g.val = 2 * (t.val / 8) + g.val)
  | ⟨1, _⟩ => exact (by omega : win0_0.index t 1 * 1 + 0 = t.val % 8)
  | ⟨2, _⟩ => exact (by omega : win0_0.index t 2 * 256 + i.val = i.val)
  | ⟨3, _⟩ => exact (by omega : win0_0.index t 3 * 256 + j.val = j.val)

/-- Where an index inside a block of half-lattice draws lies in its array. -/
theorem emb1 (t : Fin cfg0.N) (g : Fin 2) (i : Fin 256) (k : Fin 128) :
    (win0_1.rect t).emb (ix4 g 0 i k) = ix4 (bat (pairAt t) g) (chainAt t) i k := by
  obtain ⟨e0, e1, e2, e3⟩ := place1 t
  refine funext fun a => Fin.ext ?_
  refine (Pipeline.Window.rect_emb_val win0_1 t (ix4 g 0 i k) a).trans ?_
  match a with
  | ⟨0, _⟩ => exact (by omega : win0_1.index t 0 * 2 + g.val = 2 * (t.val / 8) + g.val)
  | ⟨1, _⟩ => exact (by omega : win0_1.index t 1 * 1 + 0 = t.val % 8)
  | ⟨2, _⟩ => exact (by omega : win0_1.index t 2 * 256 + i.val = i.val)
  | ⟨3, _⟩ => exact (by omega : win0_1.index t 3 * 128 + k.val = k.val)

theorem emb5 (t : Fin cfg0.N) (g : Fin 2) : (win0_5.rect t).emb (ix4 0 0 0 g) = ix4 (pairAt t) 0 0 g := by
  obtain ⟨e0, e1, e2, e3⟩ := place5 t
  refine funext fun a => Fin.ext ?_
  refine (Pipeline.Window.rect_emb_val win0_5 t (ix4 0 0 0 g) a).trans ?_
  match a with
  | ⟨0, _⟩ => exact (by omega : win0_5.index t 0 * 1 + 0 = t.val / 8)
  | ⟨1, _⟩ => exact (by omega : win0_5.index t 1 * 1 + 0 = 0)
  | ⟨2, _⟩ => exact (by omega : win0_5.index t 2 * 1 + 0 = 0)
  | ⟨3, _⟩ => exact (by omega : win0_5.index t 3 * 2 + g.val = g.val)

theorem emb6 (t : Fin cfg0.N) : (win0_6.rect t).emb (ix4 0 0 0 0) = ix4 (pairAt t) (chainAt t) 0 0 := by
  obtain ⟨e0, e1, e2, e3⟩ := place6 t
  refine funext fun a => Fin.ext ?_
  refine (Pipeline.Window.rect_emb_val win0_6 t (ix4 0 0 0 0) a).trans ?_
  match a with
  | ⟨0, _⟩ => exact (by omega : win0_6.index t 0 * 1 + 0 = t.val / 8)
  | ⟨1, _⟩ => exact (by omega : win0_6.index t 1 * 1 + 0 = t.val % 8)
  | ⟨2, _⟩ => exact (by omega : win0_6.index t 2 * 1 + 0 = 0)
  | ⟨3, _⟩ => exact (by omega : win0_6.index t 3 * 1 + 0 = 0)

theorem emb7 (t : Fin cfg0.N) (i j : Fin 256) : (win0_7.rect t).emb (ix2 i j) = ix2 i j := by
  obtain ⟨e0, e1⟩ := place7 t
  refine funext fun a => Fin.ext ?_
  refine (Pipeline.Window.rect_emb_val win0_7 t (ix2 i j) a).trans ?_
  match a with
  | ⟨0, _⟩ => exact (by omega : win0_7.index t 0 * 256 + i.val = i.val)
  | ⟨1, _⟩ => exact (by omega : win0_7.index t 1 * 256 + j.val = j.val)

theorem emb10 (t : Fin cfg0.N) (g : Fin 2) (a : Fin 8) (b : Fin 128) :
    (win0_10.rect t).emb (ix5 0 0 g a b) = ix5 (pairAt t) (chainAt t) g a b := by
  obtain ⟨e0, e1, e2, e3, e4⟩ := place10 t
  refine funext fun q => Fin.ext ?_
  refine (Pipeline.Window.rect_emb_val win0_10 t (ix5 0 0 g a b) q).trans ?_
  match q with
  | ⟨0, _⟩ => exact (by omega : win0_10.index t 0 * 1 + 0 = t.val / 8)
  | ⟨1, _⟩ => exact (by omega : win0_10.index t 1 * 1 + 0 = t.val % 8)
  | ⟨2, _⟩ => exact (by omega : win0_10.index t 2 * 2 + g.val = g.val)
  | ⟨3, _⟩ => exact (by omega : win0_10.index t 3 * 8 + a.val = a.val)
  | ⟨4, _⟩ => exact (by omega : win0_10.index t 4 * 128 + b.val = b.val)

/-- The four operands the host reshapes to rows, the temperatures and the exchange draws, as the grid finds them. -/
theorem entry1 : (V m d main_v0 : Vec Ideal S32x8x256x128 .f32) = shapeCast S32x8x256x128 (in2 m d) shapeCasts_S32x8x32768_S32x8x256x128 := by
  entry_read; rfl
theorem entry2 : (V m d main_v1 : Vec Ideal S32x8x256x128 .f32) = shapeCast S32x8x256x128 (in3 m d) shapeCasts_S32x8x32768_S32x8x256x128 := by
  entry_read; rfl
theorem entry3 : (V m d main_v2 : Vec Ideal S32x8x256x128 .f32) = shapeCast S32x8x256x128 (in4 m d) shapeCasts_S32x8x32768_S32x8x256x128 := by
  entry_read; rfl
theorem entry4 : (V m d main_v3 : Vec Ideal S32x8x256x128 .f32) = shapeCast S32x8x256x128 (in5 m d) shapeCasts_S32x8x32768_S32x8x256x128 := by
  entry_read; rfl
theorem entry5 : (V m d main_v4 : Vec Ideal S16x1x1x2 .f32) = shapeCast S16x1x1x2 (in1 m d) shapeCasts_S32_S16x1x1x2 := by
  entry_read; rfl
theorem entry6 : (V m d main_v5 : Vec Ideal S16x8x1x1 .f32) = shapeCast S16x8x1x1 (in6 m d) shapeCasts_S16x8_S16x8x1x1 := by
  entry_read; rfl
theorem entry7 : (V m d main_cst : Vec Ideal S256x256 .f32) = (fun i => FloatOps.ofBits (F := Ideal) .f32 (lit0 (S256x256.rowMajor i)) : Vec Ideal S256x256 .f32) := by
  entry_read; rfl
theorem entry8 : (V m d main_cst_0 : Vec Ideal S256x256 .f32) = (fun i => FloatOps.ofBits (F := Ideal) .f32 (lit1 (S256x256.rowMajor i)) : Vec Ideal S256x256 .f32) := by
  entry_read; rfl

theorem block0 (t : Fin cfg0.N) (g : Fin 2) (i j : Fin 256) :
    (iblk m d 0 t : Vec Ideal S2x1x256x256 .f32) (ix4 g 0 i j) = in0 m d (ix4 (bat (pairAt t) g) (chainAt t) i j) := by
  unfold iblk
  show (V m d main_arg0 : Vec Ideal S32x8x256x256 .f32) ((win0_0.rect t).emb (ix4 g 0 i j)) = _
  rw [V_main_arg0]
  exact congrArg (in0 m d) (emb0 t g i j)

theorem block1 (t : Fin cfg0.N) (g : Fin 2) (i : Fin 256) (k : Fin 128) :
    (iblk m d 1 t : Vec Ideal S2x1x256x128 .f32) (ix4 g 0 i k) = half (in2 m d) (bat (pairAt t) g) (chainAt t) i k := by
  unfold iblk
  show (V m d main_v0 : Vec Ideal S32x8x256x128 .f32) ((win0_1.rect t).emb (ix4 g 0 i k)) = _
  rw [entry1]
  exact (congrArg _ (emb1 t g i k)).trans (rows_apply _ _ _ _ _)

theorem block2 (t : Fin cfg0.N) (g : Fin 2) (i : Fin 256) (k : Fin 128) :
    (iblk m d 2 t : Vec Ideal S2x1x256x128 .f32) (ix4 g 0 i k) = half (in3 m d) (bat (pairAt t) g) (chainAt t) i k := by
  unfold iblk
  show (V m d main_v1 : Vec Ideal S32x8x256x128 .f32) ((win0_2.rect t).emb (ix4 g 0 i k)) = _
  rw [entry2]
  exact (congrArg _ (emb1 t g i k)).trans (rows_apply _ _ _ _ _)

theorem block3 (t : Fin cfg0.N) (g : Fin 2) (i : Fin 256) (k : Fin 128) :
    (iblk m d 3 t : Vec Ideal S2x1x256x128 .f32) (ix4 g 0 i k) = half (in4 m d) (bat (pairAt t) g) (chainAt t) i k := by
  unfold iblk
  show (V m d main_v2 : Vec Ideal S32x8x256x128 .f32) ((win0_3.rect t).emb (ix4 g 0 i k)) = _
  rw [entry3]
  exact (congrArg _ (emb1 t g i k)).trans (rows_apply _ _ _ _ _)

theorem block4 (t : Fin cfg0.N) (g : Fin 2) (i : Fin 256) (k : Fin 128) :
    (iblk m d 4 t : Vec Ideal S2x1x256x128 .f32) (ix4 g 0 i k) = half (in5 m d) (bat (pairAt t) g) (chainAt t) i k := by
  unfold iblk
  show (V m d main_v3 : Vec Ideal S32x8x256x128 .f32) ((win0_4.rect t).emb (ix4 g 0 i k)) = _
  rw [entry4]
  exact (congrArg _ (emb1 t g i k)).trans (rows_apply _ _ _ _ _)

theorem block5 (t : Fin cfg0.N) (g : Fin 2) :
    (iblk m d 5 t : Vec Ideal S1x1x1x2 .f32) (ix4 0 0 0 g) = in1 m d (ix1 (bat (pairAt t) g)) := by
  unfold iblk
  show (V m d main_v4 : Vec Ideal S16x1x1x2 .f32) ((win0_5.rect t).emb (ix4 0 0 0 g)) = _
  rw [entry5]
  exact (congrArg _ (emb5 t g)).trans (temps_apply _ _ _)

theorem block6 (t : Fin cfg0.N) :
    (iblk m d 6 t : Vec Ideal S1x1x1x1 .f32) (ix4 0 0 0 0) = in6 m d (ix2 (pairAt t) (chainAt t)) := by
  unfold iblk
  show (V m d main_v5 : Vec Ideal S16x8x1x1 .f32) ((win0_6.rect t).emb (ix4 0 0 0 0)) = _
  rw [entry6]
  exact (congrArg _ (emb6 t)).trans (draws_apply _ _ _)

/-- A word that is one or zero, as a number. -/
theorem table_word (w : BitVec 32) (q : Prop) [Decidable q] (h : w = if q then 0x3F800000#32 else 0#32) :
    (FloatOps.ofBits (F := Ideal) .f32 w : EReal) = if q then 1 else 0 := by
  subst h
  split
  · exact Ideal.ofBits_one_f32
  · exact zero_pattern

/-- The first table sends column `b` to its place among the even columns, then the odd ones. -/
theorem block7 (t : Fin cfg0.N) : Splits (iblk m d 7 t : Vec Ideal S256x256 .f32) := by
  intro a b
  unfold iblk
  show (V m d main_cst : Vec Ideal S256x256 .f32) ((win0_7.rect t).emb (ix2 a b)) = _
  rw [entry7]
  refine (congrArg (fun i : S256x256.Idx => (FloatOps.ofBits (F := Ideal) .f32 (lit0 (S256x256.rowMajor i)) : EReal)) (emb7 t a b)).trans ?_
  have h := split_word ⟨a.val / 32, by omega⟩ ⟨a.val % 32, by omega⟩ b
  have e : a.val / 32 * 32 + a.val % 32 = a.val := by omega
  simp only [e] at h
  refine table_word _ (a.val = col b) (Eq.trans ?_ h)
  show lit0 _ = _
  unfold lit0
  exact congrArg lit0t ((Shape.rowMajor_val_two _).trans rfl)

theorem block8 (t : Fin cfg0.N) : Merges (iblk m d 8 t : Vec Ideal S256x256 .f32) := by
  intro a b
  unfold iblk
  show (V m d main_cst_0 : Vec Ideal S256x256 .f32) ((win0_8.rect t).emb (ix2 a b)) = _
  rw [entry8]
  refine (congrArg (fun i : S256x256.Idx => (FloatOps.ofBits (F := Ideal) .f32 (lit1 (S256x256.rowMajor i)) : EReal)) (emb7 t a b)).trans ?_
  have h := merge_word ⟨a.val / 32, by omega⟩ ⟨a.val % 32, by omega⟩ b
  have e : a.val / 32 * 32 + a.val % 32 = a.val := by omega
  simp only [e] at h
  refine table_word _ (b.val = col a) (Eq.trans ?_ h)
  show lit1 _ = _
  unfold lit1
  exact congrArg lit1t ((Shape.rowMajor_val_two _).trans rfl)

end Cert.Swap
-- ==== Proof.Energy.lean ====
module
public import proofs.«01_k».proof.Proof.Spec
@[expose] public section
/-! The energy as a sum over all bonds is the energy as a sum over the white sites: every bond joins a black site and a
white one, so the white sites see every bond once. -/

noncomputable section
namespace Cert.Swap

open Idealize.ShloMosaic

/-- A cosine is never plus infinity. -/
theorem cos_ne_top (x : EReal) : Ideal.cos x ≠ ⊤ := by
  induction x using EReal.rec with
  | bot => exact bot_ne_top
  | top => exact bot_ne_top
  | coe r => exact EReal.coe_ne_top _

/-- The cosine of a difference does not depend on the order. -/
theorem cos_swap (a b : EReal) : Ideal.cos (a - b) = Ideal.cos (b - a) := by
  induction a using EReal.rec with
  | bot =>
    induction b using EReal.rec with
    | bot => rfl
    | top => rfl
    | coe r => rw [EReal.bot_sub, EReal.coe_sub_bot]; rfl
  | top =>
    induction b using EReal.rec with
    | bot => rfl
    | top => rfl
    | coe r => rw [EReal.top_sub_coe, show (↑r : EReal) - ⊤ = ⊥ from rfl]; rfl
  | coe s =>
    induction b using EReal.rec with
    | bot => rw [EReal.bot_sub, EReal.coe_sub_bot]; rfl
    | top => rw [EReal.top_sub_coe, show (↑s : EReal) - ⊤ = ⊥ from rfl]; rfl
    | coe r =>
      rw [← EReal.coe_sub, ← EReal.coe_sub]
      show ((Real.cos (s - r) : ℝ) : EReal) = ((Real.cos (r - s) : ℝ) : EReal)
      rw [← Real.cos_neg, neg_sub]

theorem sum_ne_top {ι : Type} (s : Finset ι) (f : ι → EReal) (h : ∀ i, f i ≠ ⊤) : ∑ i ∈ s, f i ≠ ⊤ := by
  classical
  induction s using Finset.induction_on with
  | empty => exact EReal.zero_ne_top
  | insert a s ha ih => rw [Finset.sum_insert ha]; exact EReal.add_ne_top (h a) ih

/-- Minus a sum, where no term is plus infinity. -/
theorem sum_minus {ι : Type} (s : Finset ι) (f : ι → EReal) (h : ∀ i, f i ≠ ⊤) : ∑ i ∈ s, -f i = -∑ i ∈ s, f i := by
  classical
  induction s using Finset.induction_on with
  | empty => simp
  | insert a s ha ih =>
    rw [Finset.sum_insert ha, Finset.sum_insert ha, ih, EReal.neg_add (Or.inr (sum_ne_top s f h)) (Or.inl (h a)), sub_eq_add_neg]

theorem sum_even_odd (f : ℕ → EReal) (n : ℕ) : ∑ j ∈ Finset.range (2 * n), f j = ∑ m ∈ Finset.range n, (f (2 * m) + f (2 * m + 1)) := by
  induction n with
  | zero => rfl
  | succ n ih => rw [show 2 * (n + 1) = 2 * n + 1 + 1 by ring, Finset.sum_range_succ, Finset.sum_range_succ, ih, Finset.sum_range_succ, add_assoc]

/-- The sum over a row is the sum over the sites of one colour and the sum over those of the other. -/
theorem sum_colours (f : ℕ → EReal) (q : ℕ) :
    ∑ j ∈ Finset.range 256, f j = ∑ m : Fin 128, f (2 * m + q % 2) + ∑ m : Fin 128, f (2 * m + (q + 1) % 2) := by
  rw [show 256 = 2 * 128 from rfl, sum_even_odd, Finset.sum_range, Finset.sum_add_distrib]
  rcases Nat.mod_two_eq_zero_or_one q with h | h
  · rw [h, show (q + 1) % 2 = 1 by omega]; rfl
  · rw [h, show (q + 1) % 2 = 0 by omega, add_comm]; rfl

/-- A sum over a cycle may start anywhere. -/
theorem sum_turn (n : ℕ) [NeZero n] (f : ℕ → EReal) : ∑ i : Fin n, f ((i + 1) % n) = ∑ i : Fin n, f i := by
  rw [← Equiv.sum_comp (Equiv.addRight (1 : Fin n)) fun i : Fin n => f i]
  refine Finset.sum_congr rfl fun i _ => congrArg f ?_
  show _ = (i + 1 : Fin n).val
  rw [Fin.val_add, Fin.val_one', Nat.add_mod_mod]

variable (D : ℕ → ℕ → EReal)

/-- The bonds upwards from the white sites are the bonds downwards from the black ones. -/
theorem up_bonds : ∑ i : Fin 256, ∑ m : Fin 128, D ((i + 255) % 256) (2 * m + (i + 1) % 2) = ∑ i : Fin 256, ∑ m : Fin 128, D i (2 * m + i % 2) := by
  rw [← sum_turn 256 fun i => ∑ m : Fin 128, D ((i + 255) % 256) (2 * m + (i + 1) % 2)]
  refine Finset.sum_congr rfl fun i _ => Finset.sum_congr rfl fun m _ => ?_
  rw [show ((i.val + 1) % 256 + 255) % 256 = i.val by omega, show ((i.val + 1) % 256 + 1) % 2 = i.val % 2 by omega]

/-- In every row, the bonds to the left from the white sites are the bonds to the right from the black ones. -/
theorem left_bonds (f : ℕ → EReal) (i : ℕ) : ∑ m : Fin 128, f ((2 * m + (i + 1) % 2 + 255) % 256) = ∑ m : Fin 128, f (2 * m + i % 2) := by
  rcases Nat.mod_two_eq_zero_or_one i with h | h
  · refine Finset.sum_congr rfl fun m _ => congrArg f ?_
    omega
  · rw [← sum_turn 128 fun m => f ((2 * m + (i + 1) % 2 + 255) % 256)]
    refine Finset.sum_congr rfl fun m _ => congrArg f ?_
    omega

/-- The two forms of the energy agree. -/
theorem white_energy (Y : Lat) : whiteEnergy Y = energy Y := by
  have hn : ∀ i j p, nb Y i j p ≠ ⊤ := fun i j p =>
    EReal.add_ne_top (EReal.add_ne_top (EReal.add_ne_top (cos_ne_top _) (cos_ne_top _)) (cos_ne_top _)) (cos_ne_top _)
  let D : ℕ → ℕ → EReal := fun i j => Ideal.cos (Y i j - Y ((i + 1) % 256) j)
  let R : ℕ → ℕ → EReal := fun i j => Ideal.cos (Y i j - Y i ((j + 1) % 256))
  have hs : ∀ i j : ℕ, i < 256 → j < 256 → nb Y i j (Y i j) = D ((i + 255) % 256) j + D i j + R i ((j + 255) % 256) + R i j := by
    intro i j hi hj
    show Ideal.cos _ + Ideal.cos _ + Ideal.cos _ + Ideal.cos _ = _
    rw [cos_swap (Y i j) (Y ((i + 255) % 256) j), cos_swap (Y i j) (Y i ((j + 255) % 256))]
    show _ = Ideal.cos (_ - Y (((i + 255) % 256 + 1) % 256) j) + Ideal.cos _ + Ideal.cos (_ - Y i (((j + 255) % 256 + 1) % 256)) + Ideal.cos _
    rw [show ((i + 255) % 256 + 1) % 256 = i by omega, show ((j + 255) % 256 + 1) % 256 = j by omega]
  unfold whiteEnergy energy
  have hm : ∀ i : Fin 256, ∑ m : Fin 128, -nb Y i (2 * m + (i + 1) % 2) (Y i (2 * m + (i + 1) % 2)) = -∑ m : Fin 128, nb Y i (2 * m + (i + 1) % 2) (Y i (2 * m + (i + 1) % 2)) :=
    fun i => sum_minus _ _ fun _ => hn _ _ _
  rw [Finset.sum_congr rfl fun i _ => hm i, sum_minus _ _ fun i => sum_ne_top _ _ fun _ => hn _ _ _]
  have hw : ∀ (i : Fin 256) (m : Fin 128), nb Y i (2 * m + (i + 1) % 2) (Y i (2 * m + (i + 1) % 2)) = D ((i + 255) % 256) (2 * m + (i + 1) % 2) + D i (2 * m + (i + 1) % 2)
      + R i ((2 * m + (i + 1) % 2 + 255) % 256) + R i (2 * m + (i + 1) % 2) := fun i m => hs i _ i.isLt (by omega)
  refine congrArg Neg.neg ?_
  rw [Finset.sum_congr rfl fun i _ => Finset.sum_congr rfl fun m _ => hw i m, Finset.sum_range]
  have hc : ∀ i : Fin 256, ∑ j ∈ Finset.range 256, (D i j + R i j) = ∑ m : Fin 128, (D i (2 * m + i % 2) + R i (2 * m + i % 2))
      + ∑ m : Fin 128, (D i (2 * m + (i + 1) % 2) + R i (2 * m + (i + 1) % 2)) := fun i => sum_colours (fun j => D i j + R i j) i
  refine Eq.trans ?_ (Finset.sum_congr rfl fun i _ => (hc i).symm)
  have hl : ∀ i : Fin 256, ∑ m : Fin 128, R i ((2 * m + (i + 1) % 2 + 255) % 256) = ∑ m : Fin 128, R i (2 * m + i % 2) := fun i => left_bonds (R i) i
  simp only [Finset.sum_add_distrib]
  rw [up_bonds D, Finset.sum_congr rfl fun i _ => hl i]
  abel

end Cert.Swap
end
-- ==== Proof.KernelValue.lean ====
module
public import proofs.«01_k».proof.Proof.Blocks
public import proofs.«01_k».proof.Proof.Energy
@[expose] public section
/-! What the kernel's run leaves in its two results: the swept pictures and their energies, exchanged pair by pair. -/

noncomputable section
namespace Cert.Swap

open Idealize.ShloMosaic Idealize.ShloMosaic.ValueIdx Cert.KernelIdeal Cert.KernelIdeal.Gen
open Idealize.ShloMosaic.TcCoe Idealize.SL.Sem

variable (m : (ℓ : Loc nD τ sig) → Buf (Elt Ideal) ℓ) (ρ : Dev nD → PrngReg) (d : Dev nD)

/-- The pictures of a pair, its draws and its temperatures, as a point of the grid sees them. -/
def seenX (t : Fin cfg0.N) (g : Fin 2) : Lat := pic (in0 m d) (bat (pairAt t) g) (chainAt t)
def seenPB (t : Fin cfg0.N) (g : Fin 2) : Lat := halfTurned (in2 m d) (bat (pairAt t) g) (chainAt t)
def seenRB (t : Fin cfg0.N) (g : Fin 2) : Lat := half (in3 m d) (bat (pairAt t) g) (chainAt t)
def seenPW (t : Fin cfg0.N) (g : Fin 2) : Lat := halfTurned (in4 m d) (bat (pairAt t) g) (chainAt t)
def seenRW (t : Fin cfg0.N) (g : Fin 2) : Lat := half (in5 m d) (bat (pairAt t) g) (chainAt t)
def seenT (t : Fin cfg0.N) (g : Fin 2) : EReal := in1 m d (ix1 (bat (pairAt t) g))

/-- The nine input blocks of a grid point are what the block lemmas ask for. -/
theorem block (t : Fin cfg0.N) : Block (iblk m d 0 t) (iblk m d 1 t) (iblk m d 2 t) (iblk m d 3 t) (iblk m d 4 t) (iblk m d 5 t) (iblk m d 6 t)
    (iblk m d 7 t) (iblk m d 8 t) (seenX m d t) (seenPB m d t) (seenRB m d t) (seenPW m d t) (seenRW m d t) (seenT m d t)
    (in6 m d (ix2 (pairAt t) (chainAt t))) where
  pic g i j := (congrArg (· * turn) (block0 m d t g i j)).trans (by simp only [seenX, pic, ofNat_self])
  pb g i k := congrArg (· * turn) (block1 m d t g i k)
  rb g i k := block2 m d t g i k
  pw g i k := congrArg (· * turn) (block3 m d t g i k)
  rw' g i k := block4 m d t g i k
  tt g := block5 m d t g
  rr := block6 m d t
  sp := block7 m d t
  mg := block8 m d t

/-- The exchange bit of the point is the one of the mathematics: the two energies agree. -/
theorem bit_eq (t : Fin cfg0.N) : pairBit (seenX m d t) (seenPB m d t) (seenRB m d t) (seenPW m d t) (seenRW m d t) (seenT m d t)
      (in6 m d (ix2 (pairAt t) (chainAt t)))
    = exchanged (in0 m d) (in1 m d) (in2 m d) (in3 m d) (in4 m d) (in5 m d) (in6 m d) (pairAt t) (chainAt t) := by
  unfold pairBit
  rw [white_energy, white_energy]
  rfl

/-- The two results of the kernel's run. -/
abbrev outPics : Pics := picsOut (in0 m d) (in1 m d) (in2 m d) (in3 m d) (in4 m d) (in5 m d) (in6 m d)
abbrev outEns : Ens := ensOut (in0 m d) (in1 m d) (in2 m d) (in3 m d) (in4 m d) (in5 m d) (in6 m d)

/-- The energies as the grid leaves them: every energy fills a tile of 8 by 128. -/
def tiles : Vec Ideal S16x8x2x8x128 .f32 := fun i =>
  swap (α := EReal) (exchanged (in0 m d) (in1 m d) (in2 m d) (in3 m d) (in4 m d) (in5 m d) (in6 m d) (i 0) (i 1))
    (fun g => energy (sweepOf (in0 m d) (in1 m d) (in2 m d) (in3 m d) (in4 m d) (in5 m d) (bat (i 0) g) (i 1))) (i 2)

theorem pair_bat (p : Fin 16) (g : Fin 2) : pairOf (bat p g) = p := Fin.ext (by simp only [pairOf, bat]; omega)
theorem side_bat (p : Fin 16) (g : Fin 2) : sideOf (bat p g) = g := Fin.ext (by simp only [sideOf, bat]; omega)

/-- What a point writes back to the pictures is its block of the swept pictures. -/
theorem flushed9 (t : Fin cfg0.N) : (dats m 0 d).flushed 9 t = (win0_9.blk t).view.read (Elt Ideal) (outPics m d) := by
  show (cfg0.win 9).cut (grid0.coords t) ((dats m 0 d).after 9 t) = _
  rw [after0_9]
  refine funext fun (y : S2x1x256x256.Idx) => ?_
  obtain ⟨g, i, j, rfl⟩ : ∃ (g : Fin 2) (i j : Fin 256), y = ix4 g 0 i j :=
    ⟨y 0, y 2, y 3, funext fun a => by
      match a with
      | ⟨0, _⟩ => rfl
      | ⟨1, _⟩ => exact Subsingleton.elim (α := Fin 1) _ _
      | ⟨2, _⟩ => rfl
      | ⟨3, _⟩ => rfl⟩
  refine (out_pictures (block m d t) g i j).trans ?_
  show _ = outPics m d ((win0_9.rect t).emb (ix4 g 0 i j))
  refine Eq.trans ?_ (congrArg (outPics m d) (emb0 t g i j)).symm
  rw [bit_eq]
  show _ = swap (exchanged _ _ _ _ _ _ _ (pairOf (bat (pairAt t) g)) (chainAt t))
    (fun g' => sweepOf _ _ _ _ _ _ (bat (pairOf (bat (pairAt t) g)) g') (chainAt t) i.val j.val) (sideOf (bat (pairAt t) g))
  rw [pair_bat, side_bat]
  rfl

/-- What a point writes back to the energies is its block of the tiles. -/
theorem flushed10 (t : Fin cfg0.N) : (dats m 0 d).flushed 10 t = (win0_10.blk t).view.read (Elt Ideal) (tiles m d) := by
  show (cfg0.win 10).cut (grid0.coords t) ((dats m 0 d).after 10 t) = _
  rw [after0_10]
  refine funext fun (y : S1x1x2x8x128.Idx) => ?_
  obtain ⟨g, a, b, rfl⟩ : ∃ (g : Fin 2) (a : Fin 8) (b : Fin 128), y = ix5 0 0 g a b :=
    ⟨y 2, y 3, y 4, funext fun q => by
      match q with
      | ⟨0, _⟩ => exact Subsingleton.elim (α := Fin 1) _ _
      | ⟨1, _⟩ => exact Subsingleton.elim (α := Fin 1) _ _
      | ⟨2, _⟩ => rfl
      | ⟨3, _⟩ => rfl
      | ⟨4, _⟩ => rfl⟩
  refine (out_energies (block m d t) g a b).trans ?_
  show _ = tiles m d ((win0_10.rect t).emb (ix5 0 0 g a b))
  refine Eq.trans ?_ (congrArg (tiles m d) (emb10 t g a b)).symm
  rw [bit_eq]
  simp only [white_energy]
  rfl

/-- The point that works on pair `p` of chain `c`. -/
def pointOf (p : Fin 16) (c : Fin 8) : Fin cfg0.N := ⟨8 * p.val + c.val, by show _ < 128; omega⟩

theorem pair_point (p : Fin 16) (c : Fin 8) : pairAt (pointOf p c) = p := Fin.ext (by simp only [pairAt, pointOf]; omega)
theorem chain_point (p : Fin 16) (c : Fin 8) : chainAt (pointOf p c) = c := Fin.ext (by simp only [chainAt, pointOf]; omega)

/-- Every entry of the pictures is written by some point. -/
theorem cover9 (i : S32x8x256x256.Idx) : ∃ t : Fin cfg0.N, (cfg0.win 9).flush t = true ∧ i ∈ ((cfg0.win 9).blk t).view.set := by
  obtain ⟨b, c, r, s, rfl⟩ : ∃ (b : Fin 32) (c : Fin 8) (r s : Fin 256), i = ix4 b c r s :=
    ⟨i 0, i 1, i 2, i 3, funext fun a => by
      match a with
      | ⟨0, _⟩ => rfl
      | ⟨1, _⟩ => rfl
      | ⟨2, _⟩ => rfl
      | ⟨3, _⟩ => rfl⟩
  refine ⟨pointOf (pairOf b) c, flush0_9 _, ?_⟩
  have e := emb0 (pointOf (pairOf b) c) (sideOf b) r s
  rw [pair_point, chain_point, bat_pair] at e
  rw [← e]
  exact (win0_9.blk (pointOf (pairOf b) c)).view.emb_mem_set (ix4 (sideOf b) 0 r s)

/-- Every entry of the tiles is written by some point. -/
theorem cover10 (i : S16x8x2x8x128.Idx) : ∃ t : Fin cfg0.N, (cfg0.win 10).flush t = true ∧ i ∈ ((cfg0.win 10).blk t).view.set := by
  obtain ⟨p, c, g, a, b, rfl⟩ : ∃ (p : Fin 16) (c : Fin 8) (g : Fin 2) (a : Fin 8) (b : Fin 128), i = ix5 p c g a b :=
    ⟨i 0, i 1, i 2, i 3, i 4, funext fun q => by
      match q with
      | ⟨0, _⟩ => rfl
      | ⟨1, _⟩ => rfl
      | ⟨2, _⟩ => rfl
      | ⟨3, _⟩ => rfl
      | ⟨4, _⟩ => rfl⟩
  refine ⟨pointOf p c, flush0_10 _, ?_⟩
  have e := emb10 (pointOf p c) g a b
  rw [pair_point, chain_point] at e
  rw [← e]
  exact (win0_10.blk (pointOf p c)).view.emb_mem_set (ix5 0 0 g a b)

/-- The array of pictures after the grid, and the array of tiles. -/
theorem final9 : (dats m 0 d).arrAt 9 cfg0.N = outPics m d :=
  (dats m 0 d).arrAt_eq_of_cover 9 (outPics m d) (fun t _ => flushed9 m d t) cover9
theorem final10 : (dats m 0 d).arrAt 10 cfg0.N = tiles m d :=
  (dats m 0 d).arrAt_eq_of_cover 10 (tiles m d) (fun t _ => flushed10 m d t) cover10

/-- The first entry of every tile, with the two temperatures of every pair put side by side. -/
theorem untile (x : Vec Ideal S16x8x2x8x128 .f32) (b : Fin 32) (c : Fin 8) :
    shapeCast S32x8 (transpose S16x2x8 [0, 2, 1] (shapeCast S16x8x2 (extractStridedSlice S16x8x2x1x1 ![0, 0, 0, 0, 0] x
      slices_S16x8x2x8x128_S16x8x2x1x1_0_0_0_0_0) shapeCasts_S16x8x2x1x1_S16x8x2) transposes_S16x8x2_S16x2x8_0_2_1) shapeCasts_S16x2x8_S32x8 (ix2 b c)
    = x (ix5 (pairOf b) c (sideOf b) 0 0) := by
  refine (shapeCast_apply _ _ _ (ix3 (pairOf b) (sideOf b) c) ?_).trans ?_
  · rw [Shape.rowMajor_val_three, Shape.rowMajor_val_two]
    simp [ix2, ix3, pairOf, sideOf]
    omega
  refine (transpose_apply _ _ _ _ (ix3 (pairOf b) c (sideOf b)) fun a => by
    match a with
    | ⟨0, _⟩ => rfl
    | ⟨1, _⟩ => rfl
    | ⟨2, _⟩ => rfl).trans ?_
  refine (shapeCast_apply _ _ _ (ix5 (pairOf b) c (sideOf b) 0 0) ?_).trans ?_
  · rw [Shape.rowMajor_val_three, Shape.rowMajor_val_five]
    simp [ix3, ix5]
  refine extractStridedSlice_apply _ _ _ _ (ix5 (pairOf b) c (sideOf b) 0 0) fun a => ?_
  match a with
  | ⟨0, _⟩ => simp [ix5]
  | ⟨1, _⟩ => simp [ix5]
  | ⟨2, _⟩ => simp [ix5]
  | ⟨3, _⟩ => simp [ix5]
  | ⟨4, _⟩ => simp [ix5]

/-- The energies after the lines that follow the grid. -/
theorem tail10 : Pipeline.afterTail₀ cfgs (dats m) 0 (V0 m) [hostOps1] d main_v10 = outEns m d := by
  have e : Pipeline.withArrays spec0 d (V0 m d) (fun w => (dats m 0 d).arrAt w cfg0.N) (Proc.devRef .tc main_v6_1) = tiles m d :=
    (Pipeline.withArrays_arr spec0 winFacts0.arr_inj d (V0 m d) (fun w => (dats m 0 d).arrAt w cfg0.N) 10).trans (final10 m d)
  unfold Pipeline.afterTail₀
  simp only [List.flatten_cons, List.flatten_nil, List.append_nil]
  entry_read
  refine funext fun (i : S32x8.Idx) => ?_
  obtain ⟨b, c, rfl⟩ : ∃ (b : Fin 32) (c : Fin 8), i = ix2 b c := ⟨i 0, i 1, funext fun a => by
    match a with
    | ⟨0, _⟩ => rfl
    | ⟨1, _⟩ => rfl⟩
  refine (untile _ b c).trans ?_
  exact (congrFun e _).trans rfl

/-- The kernel's run: its two results are the swept and exchanged pictures and their energies, and its arguments are unchanged. -/
theorem kernel_run : θ_run defs (onTc (τ := τ) (main (F := Ideal))) ⟨m, fun _ => 0, ρ⟩ fun r => ∀ c : Dev nD,
      r.2.mem ((c : Thread nD τ).loc main_v6_0) = outPics m c
      ∧ r.2.mem ((c : Thread nD τ).loc main_v10) = outEns m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h.1 c).1 9).trans (final9 m c),
      ((h.1 c).2 main_v10 (Pipeline.mem_restRefs_of main_v10 (by decide) (by decide))).trans (tail10 m c), h.2 c⟩)
    (θ_run_and (run_main m ρ) (unchanged m ρ))

end Cert.Swap
-- ==== Proof.RefWords.lean ====
module
public import proofs.«01_k».proof.Proof.Spec
public import proofs.«01_k».proof.Proof.Gen.ReferenceIdeal.Run
public import Idealize.ShloMosaic.Lib.Routing.Words
public import Idealize.ShloMosaic.Lib.Routing.Ops
public import Idealize.ShloMosaic.Lib.Pipeline.Value
@[expose] public section
/-! The reference's site tables. Entry n of a colour's tables belongs to the site of that colour with number n: row n / 128,
and in that row the (n mod 128)-th column of the colour. Every table entry is read here as a natural number. -/

noncomputable section
namespace Cert.Swap

open Idealize.ShloMosaic Idealize.ShloMosaic.ValueIdx Idealize.ShloMosaic.Routing Cert.ReferenceIdeal Cert.ReferenceIdeal.Gen

/-- One word everywhere. -/
abbrev all (c : BitVec 32) : IVec S32768 32 := broadcastInDim S32768 ![] bcast_S_S32768 (constantI S_ 32 c)

/-- The rows of the sites. -/
def rowW : IVec S32768 32 := pyDiv bcast_S_S32768 (iotaInDim S32768 32 0) (id (constantI S_ 32 128#32))

/-- The columns of the sites of colour `par`. -/
def colW (par : BitVec 32) : IVec S32768 32 :=
  addi (muli (all 2#32) (pyRem bcast_S_S32768 (iotaInDim S32768 32 0) (id (constantI S_ 32 128#32))))
    (pyRem bcast_S_S32768 (addi rowW (all par)) (id (constantI S_ 32 2#32)))

/-- A table one less, or one more, modulo 256. -/
def predW (x : IVec S32768 32) : IVec S32768 32 := pyRem bcast_S_S32768 (subi x (all 1#32)) (id (constantI S_ 32 256#32))
def succW (x : IVec S32768 32) : IVec S32768 32 := pyRem bcast_S_S32768 (addi x (all 1#32)) (id (constantI S_ 32 256#32))

/-- The flat numbers of the sites. -/
def siteW (par : BitVec 32) : IVec S32768 32 := addi (muli rowW (all 256#32)) (colW par)

/-- Four tables side by side. -/
def fourW (a b c d : IVec S32768 32) : IVec S32768x4 32 :=
  concatenate S32768x4 1 [⟨S32768x1, broadcastInDim S32768x1 ![0] bcast_S32768_S32768x1_0 a⟩, ⟨S32768x1, broadcastInDim S32768x1 ![0] bcast_S32768_S32768x1_0 b⟩,
    ⟨S32768x1, broadcastInDim S32768x1 ![0] bcast_S32768_S32768x1_0 c⟩, ⟨S32768x1, broadcastInDim S32768x1 ![0] bcast_S32768_S32768x1_0 d⟩]
    concatenates_S32768x1_S32768x1_S32768x1_S32768x1_S32768x4_d1

/-- The flat numbers of the four neighbours of the sites. -/
def nbW (par : BitVec 32) : IVec S32768x4 32 :=
  addi (muli (fourW (predW rowW) (succW rowW) rowW rowW) (broadcastInDim S32768x4 ![] bcast_S_S32768x4 (constantI S_ 32 256#32)))
    (fourW (colW par) (colW par) (predW (colW par)) (succW (colW par)))

variable {F : FTy → Type} [FloatOps F] (V0 : Valuation τ sig (Elt F))

theorem site0_eq : Value.res_main_v36 V0 = siteW 0#32 := rfl
theorem site1_eq : Value.res_main_v73 V0 = siteW 1#32 := rfl
theorem nb0_eq : Value.res_main_v39 V0 = nbW 0#32 := rfl
theorem nb1_eq : Value.res_main_v76 V0 = nbW 1#32 := rfl

/-- The row and the column of site n, and its neighbours' rows and columns. -/
def row (n : ℕ) : ℕ := n / 128
def colm (par n : ℕ) : ℕ := 2 * (n % 128) + (n / 128 + par) % 2
def nbRow (n : ℕ) (k : Fin 4) : ℕ := ![(row n + 255) % 256, (row n + 1) % 256, row n, row n] k
def nbCol (par n : ℕ) (k : Fin 4) : ℕ := ![colm par n, colm par n, (colm par n + 255) % 256, (colm par n + 1) % 256] k

theorem row_lt (n : Fin 32768) : row n < 256 := by unfold row; omega
theorem colm_lt (par : ℕ) (n : Fin 32768) : colm par n < 256 := by unfold colm; omega
theorem nbRow_lt (n : Fin 32768) (k : Fin 4) : nbRow n k < 256 := by
  have := row_lt n
  unfold nbRow; fin_cases k <;> simp <;> omega
theorem nbCol_lt (par : ℕ) (n : Fin 32768) (k : Fin 4) : nbCol par n k < 256 := by
  have := colm_lt par n
  unfold nbCol; fin_cases k <;> simp <;> omega

theorem all_at (c : BitVec 32) (i : S32768.Idx) : all c i = c := bc0 _ _ _

theorem rowW_at (n : Fin 32768) : rowW (ix1 n) = BitVec.ofNat 32 (row n) :=
  pyDiv_ap _ _ _ _ (a := n.val) (b := 128) rfl rfl (by omega) (by omega) (by omega)

theorem colW_at (par : ℕ) (hp : par < 2) (n : Fin 32768) : colW (BitVec.ofNat 32 par) (ix1 n) = BitVec.ofNat 32 (colm par n) := by
  unfold colW
  rw [addi_ap, muli_ap, all_at, pyRem_ap _ _ _ _ (a := n.val) (b := 128) rfl rfl (by omega) (by omega) (by omega),
    pyRem_ap _ _ _ _ (a := row n + par) (b := 2) (by rw [addi_ap, all_at, rowW_at, BitVec.ofNat_add_ofNat]) rfl
      (by have := row_lt n; omega) (by omega) (by omega)]
  rw [show (2#32 : BitVec 32) = BitVec.ofNat 32 2 from rfl, ← BitVec.ofNat_mul, BitVec.ofNat_add_ofNat]
  rfl

theorem succW_at (x : IVec S32768 32) (i : S32768.Idx) (a : ℕ) (ha : a < 256) (hx : x i = BitVec.ofNat 32 a) :
    succW x i = BitVec.ofNat 32 ((a + 1) % 256) :=
  pyRem_ap _ _ _ _ (b := 256) (by rw [addi_ap, all_at, hx, show (1#32 : BitVec 32) = BitVec.ofNat 32 1 from rfl, BitVec.ofNat_add_ofNat]) rfl
    (by omega) (by omega) (by omega)

/-- One less, modulo 256, on the words of the numbers below 256, gone through one by one. -/
theorem pred_words : ∀ a : Fin 256,
    Scalar.select (IntOp.andi (IntOp.cmpi .ne (IntOp.cmpi .slt (IntOp.remsi .host (BitVec.ofNat 32 a.val - 1#32) 256#32) 0#32) (IntOp.cmpi .slt 256#32 0#32))
        (IntOp.cmpi .ne (IntOp.remsi .host (BitVec.ofNat 32 a.val - 1#32) 256#32) 0#32))
      (IntOp.remsi .host (BitVec.ofNat 32 a.val - 1#32) 256#32 + 256#32) (IntOp.remsi .host (BitVec.ofNat 32 a.val - 1#32) 256#32)
    = BitVec.ofNat 32 ((a.val + 255) % 256) := by decide +kernel

theorem predW_at (x : IVec S32768 32) (i : S32768.Idx) (a : ℕ) (ha : a < 256) (hx : x i = BitVec.ofNat 32 a) :
    predW x i = BitVec.ofNat 32 ((a + 255) % 256) := by
  have hg : divGuard (id (constantI S_ 32 256#32)) ix0 = 256#32 := divGuard_ap _ (b := 256) rfl (by omega) (by omega)
  rw [← pred_words ⟨a, ha⟩, ← hx]
  unfold predW pyRem
  have e32 : ∀ v : IVec S_ 32, broadcastInDim S32768 ![] bcast_S_S32768 v i = v ix0 := fun v => bc0 _ v i
  have e1 : ∀ v : IVec S_ 1, broadcastInDim S32768 ![] bcast_S_S32768 v i = v ix0 := fun v => bc0 _ v i
  simp only [WordCmp.select_at, WordCmp.cmpi_at, WordCmp.andi_at, addi_ap, subi_ap, Host.remsi_apply]
  rw [e32, e32, e1, WordCmp.cmpi_at, hg, all_at]
  rfl

theorem siteW_at (par : ℕ) (hp : par < 2) (n : Fin 32768) :
    siteW (BitVec.ofNat 32 par) (ix1 n) = BitVec.ofNat 32 (row n * 256 + colm par n) := by
  unfold siteW
  rw [addi_ap, muli_ap, all_at, rowW_at, colW_at par hp, show (256#32 : BitVec 32) = BitVec.ofNat 32 256 from rfl, ← BitVec.ofNat_mul,
    BitVec.ofNat_add_ofNat]

theorem fourW_at (u : Fin 4 → IVec S32768 32) (n : Fin 32768) (k : Fin 4) : fourW (u 0) (u 1) (u 2) (u 3) (ix2 n k) = u k (ix1 n) := by
  unfold fourW
  refine (concatenate_apply_piece (t := S32768x4) (1 : Fin 2) _ _ (ix2 n k) k.val (by exact k.isLt) S32768x1
    (broadcastInDim S32768x1 ![0] bcast_S32768_S32768x1_0 (u k)) (by fin_cases k <;> rfl) rfl k.val (by fin_cases k <;> rfl) (ix2 n 0) ?_ ?_).trans
    (bcCol _ _ _)
  · intro b hb
    match b with
    | ⟨0, _⟩ => rfl
    | ⟨1, _⟩ => exact absurd rfl hb
  · rfl

theorem nbW_at (par : ℕ) (hp : par < 2) (n : Fin 32768) (k : Fin 4) :
    nbW (BitVec.ofNat 32 par) (ix2 n k) = BitVec.ofNat 32 (nbRow n k * 256 + nbCol par n k) := by
  have hr : fourW (predW rowW) (succW rowW) rowW rowW (ix2 n k) = BitVec.ofNat 32 (nbRow n k) := by
    rw [show fourW (predW rowW) (succW rowW) rowW rowW (ix2 n k) = _ from fourW_at ![predW rowW, succW rowW, rowW, rowW] n k]
    fin_cases k
    · exact predW_at _ _ _ (row_lt n) (rowW_at n)
    · exact succW_at _ _ _ (row_lt n) (rowW_at n)
    · exact rowW_at n
    · exact rowW_at n
  have hc : fourW (colW (BitVec.ofNat 32 par)) (colW (BitVec.ofNat 32 par)) (predW (colW (BitVec.ofNat 32 par))) (succW (colW (BitVec.ofNat 32 par))) (ix2 n k)
      = BitVec.ofNat 32 (nbCol par n k) := by
    generalize hC : colW (BitVec.ofNat 32 par) = C
    have hC' : C (ix1 n) = BitVec.ofNat 32 (colm par n) := hC ▸ colW_at par hp n
    rw [show fourW C C (predW C) (succW C) (ix2 n k) = _ from fourW_at ![C, C, predW C, succW C] n k]
    fin_cases k
    · exact hC'
    · exact hC'
    · exact predW_at _ _ _ (colm_lt par n) hC'
    · exact succW_at _ _ _ (colm_lt par n) hC'
  unfold nbW
  rw [addi_ap, muli_ap, hr, hc, bc0, WordCmp.constantI_at, show (256#32 : BitVec 32) = BitVec.ofNat 32 256 from rfl, ← BitVec.ofNat_mul, BitVec.ofNat_add_ofNat]

end Cert.Swap
end
-- ==== Proof.RefTake.lean ====
module
public import proofs.«01_k».proof.Proof.RefWords
public import Idealize.ShloMosaic.Lib.Routing.OpsSet
public import Idealize.ShloMosaic.Lib.Routing.OpsPair
public import Idealize.ShloMosaic.Lib.ReduceAll
@[expose] public section
/-! How the reference reads the angles at its sites and at their neighbours, and how it writes angles back at its sites. -/

noncomputable section
namespace Cert.Swap

open Idealize.ShloMosaic Idealize.ShloMosaic.ValueIdx Idealize.ShloMosaic.Routing Cert.ReferenceIdeal Cert.ReferenceIdeal.Gen

abbrev Flat : Type := Vec Ideal S32x8x65536 .f32
abbrev Half : Type := Vec Ideal S32x8x32768 .f32
abbrev Half4 : Type := Vec Ideal S32x8x32768x4 .f32

/-- A table of flat numbers as the index of a read or a write: a negative number counts from the end. -/
def oneIdx (w : IVec S32768 32) : IVec S32768x1 32 :=
  broadcastInDim S32768x1 ![0] bcast_S32768_S32768x1_0 (select (cmpi .slt w (all 0#32)) (addi w (all 65536#32)) w)

/-- The same of a table of four numbers per site. -/
def fourIdx (w : IVec S32768x4 32) : IVec S32768x4x1 32 :=
  broadcastInDim S32768x4x1 ![0, 1] bcast_S32768x4_S32768x4x1_0_1
    (select (cmpi .slt w (broadcastInDim S32768x4 ![] bcast_S_S32768x4 (constantI S_ 32 0#32)))
      (addi w (broadcastInDim S32768x4 ![] bcast_S_S32768x4 (constantI S_ 32 65536#32))) w)

/-- The word of a number below 2^31 is not negative, so it is kept. -/
theorem wrap_word (p : ℕ) (hp : p < 65536) (q : BitVec 32) :
    Scalar.select (IntOp.cmpi .slt (BitVec.ofNat 32 p) 0#32) q (BitVec.ofNat 32 p) = BitVec.ofNat 32 p := by
  rw [show (0#32 : BitVec 32) = BitVec.ofNat 32 0 from rfl, WordCmp.cmpi_slt_ofNat (w := 32) (by omega) (by omega), decide_eq_false (by omega)]; rfl

theorem oneIdx_at (w : IVec S32768 32) (n : Fin 32768) (p : ℕ) (hp : p < 65536) (h : w (ix1 n) = BitVec.ofNat 32 p) :
    oneIdx w (ix2 n 0) = BitVec.ofNat 32 p := by
  refine (bcCol _ _ n).trans ?_
  rw [WordCmp.select_at, WordCmp.cmpi_at, all_at, h, wrap_word p hp]

theorem fourIdx_at (w : IVec S32768x4 32) (n : Fin 32768) (k : Fin 4) (p : ℕ) (hp : p < 65536) (h : w (ix2 n k) = BitVec.ofNat 32 p) :
    fourIdx w (ix3 n k 0) = BitVec.ofNat 32 p := by
  refine (broadcastInDim_apply _ _ _ (ix3 n k 0) (ix2 n k) (fun a => ?_)).trans ?_
  · match a with
    | ⟨0, _⟩ => rfl
    | ⟨1, _⟩ => rfl
  · rw [WordCmp.select_at, WordCmp.cmpi_at, bc0, WordCmp.constantI_at, h, wrap_word p hp]

theorem toInt_word (p : ℕ) (hp : p < 65536) : (BitVec.ofNat 32 p).toInt = p := by
  rw [BitVec.toInt_eq_toNat_of_lt (by rw [BitVec.toNat_ofNat]; omega), BitVec.toNat_ofNat]; omega

/-- A read at one site per entry. -/
theorem gather_one (th : Flat) (ix : IVec S32768x1 32) (b : Fin 32) (c : Fin 8) (n : Fin 32768) (p : ℕ) (hp : p < 65536)
    (h : ix (ix2 n 0) = BitVec.ofNat 32 p) :
    Host.gather gather_S32x8x65536_S32768x1_S32x8x32768_01_2_n_n_2_1_3281 th ix (ix3 b c n) = th (ix3 b c ⟨p, hp⟩) := by
  unfold Host.gather
  congr 1
  funext a
  refine Fin.ext ?_
  match a with
  | ⟨0, _⟩ => exact (show 0 + 0 + b.val = b.val by omega)
  | ⟨1, _⟩ => exact (show 0 + 0 + c.val = c.val by omega)
  | ⟨2, _⟩ =>
    show min (ix _).toInt.toNat (65536 - 1) = p
    rw [show ix _ = BitVec.ofNat 32 p from (congrArg ix (funext fun e => Fin.ext (by
      match e with
      | ⟨0, _⟩ => rfl
      | ⟨1, _⟩ => rfl))).trans h, toInt_word p hp]
    omega

/-- A read at four sites per entry. -/
theorem gather_four (th : Flat) (ix : IVec S32768x4x1 32) (b : Fin 32) (c : Fin 8) (n : Fin 32768) (k : Fin 4) (p : ℕ) (hp : p < 65536)
    (h : ix (ix3 n k 0) = BitVec.ofNat 32 p) :
    Host.gather gather_S32x8x65536_S32768x4x1_S32x8x32768x4_01_2_n_n_2_2_3281 th ix (ix4 b c n k) = th (ix3 b c ⟨p, hp⟩) := by
  unfold Host.gather
  congr 1
  funext a
  refine Fin.ext ?_
  match a with
  | ⟨0, _⟩ => exact (show 0 + 0 + b.val = b.val by omega)
  | ⟨1, _⟩ => exact (show 0 + 0 + c.val = c.val by omega)
  | ⟨2, _⟩ =>
    show min (ix _).toInt.toNat (65536 - 1) = p
    rw [show ix _ = BitVec.ofNat 32 p from (congrArg ix (funext fun e => Fin.ext (by
      match e with
      | ⟨0, _⟩ => rfl
      | ⟨1, _⟩ => rfl
      | ⟨2, _⟩ => rfl))).trans h, toInt_word p hp]
    omega

/-- Every flat number is in range. -/
theorem in_range (p : ℕ) (hp : p < 65536) :
    IntOp.andi (IntOp.cmpi .sge (BitVec.ofNat 32 p) 0#32) (IntOp.cmpi .sle (BitVec.ofNat 32 p) 65535#32) = 1#1 := by
  rw [show (0#32 : BitVec 32) = BitVec.ofNat 32 0 from rfl, show (65535#32 : BitVec 32) = BitVec.ofNat 32 65535 from rfl,
    WordCmp.cmpi_sge_ofNat (w := 32) (by omega) (by omega), WordCmp.cmpi_sle_ofNat (w := 32) (by omega) (by omega),
    decide_eq_true (by omega : 0 ≤ p), decide_eq_true (by omega : p ≤ 65535)]
  rfl

/-- The reference's read at one site per entry, its range test included. -/
def takeOne (th : Flat) (ix : IVec S32768x1 32) : Half :=
  select (broadcastInDim S32x8x32768 ![2] bcast_S32768_S32x8x32768_2 (Host.reduce IntOp.andi (andi (cmpi .sge ix (broadcastInDim S32768x1 ![] bcast_S_S32768x1 (constantI S_ 32 0#32))) (cmpi .sle ix (broadcastInDim S32768x1 ![0, 1] bcast_S1x1_S32768x1_0_1 (broadcastInDim S1x1 ![1] bcast_S1_S1x1_1 (constantI S1 32 65535#32))))) (constantI S_ 1 1#1) reducesTo_S32768x1_S32768_d1 h_S_))
    (Host.gather gather_S32x8x65536_S32768x1_S32x8x32768_01_2_n_n_2_1_3281 th ix) (broadcastInDim S32x8x32768 ![] bcast_S_S32x8x32768 (constant (F := Ideal) S_ .f32 0x7FC00000#32))

/-- The same at four sites per entry. -/
def takeFour (th : Flat) (ix : IVec S32768x4x1 32) : Half4 :=
  select (broadcastInDim S32x8x32768x4 ![2, 3] bcast_S32768x4_S32x8x32768x4_2_3 (Host.reduce IntOp.andi (andi (cmpi .sge ix (broadcastInDim S32768x4x1 ![] bcast_S_S32768x4x1 (constantI S_ 32 0#32))) (cmpi .sle ix (broadcastInDim S32768x4x1 ![0, 1, 2] bcast_S1x1x1_S32768x4x1_0_1_2 (broadcastInDim S1x1x1 ![2] bcast_S1_S1x1x1_2 (constantI S1 32 65535#32))))) (constantI S_ 1 1#1) reducesTo_S32768x4x1_S32768x4_d2 h_S_))
    (Host.gather gather_S32x8x65536_S32768x4x1_S32x8x32768x4_01_2_n_n_2_2_3281 th ix) (broadcastInDim S32x8x32768x4 ![] bcast_S_S32x8x32768x4 (constant (F := Ideal) S_ .f32 0x7FC00000#32))

theorem select_one {s : Shape} {α : Type} (c : IVec s 1) (x y : s.Idx → α) (i : s.Idx) (h : c i = 1#1) : select c x y i = x i := by
  rw [WordCmp.select_at, h]; rfl

theorem takeOne_at (th : Flat) (ix : IVec S32768x1 32) (f : ℕ → ℕ) (hf : ∀ n : Fin 32768, f n < 65536)
    (h : ∀ n : Fin 32768, ix (ix2 n 0) = BitVec.ofNat 32 (f n)) (b : Fin 32) (c : Fin 8) (n : Fin 32768) :
    takeOne th ix (ix3 b c n) = th (ix3 b c ⟨f n, hf n⟩) := by
  refine (select_one _ _ _ _ ?_).trans (gather_one th ix b c n _ (hf n) (h n))
  unfold broadcastInDim
  refine Host.reduce_andi_one _ _ _ _ _ rfl fun i => ?_
  have e : i = ix2 (i 0) 0 := funext fun a => by
    match a with
    | ⟨0, _⟩ => rfl
    | ⟨1, _⟩ => exact Subsingleton.elim (α := Fin 1) _ _
  have hw := (congrArg ix e).trans (h (i 0))
  show IntOp.andi (IntOp.cmpi .sge (ix i) 0#32) (IntOp.cmpi .sle (ix i) 65535#32) = 1#1
  rw [hw]
  exact in_range _ (hf (i 0))

theorem takeFour_at (th : Flat) (ix : IVec S32768x4x1 32) (f : ℕ → Fin 4 → ℕ) (hf : ∀ (n : Fin 32768) k, f n k < 65536)
    (h : ∀ (n : Fin 32768) (k : Fin 4), ix (ix3 n k 0) = BitVec.ofNat 32 (f n k)) (b : Fin 32) (c : Fin 8) (n : Fin 32768) (k : Fin 4) :
    takeFour th ix (ix4 b c n k) = th (ix3 b c ⟨f n k, hf n k⟩) := by
  refine (select_one _ _ _ _ ?_).trans (gather_four th ix b c n k _ (hf n k) (h n k))
  unfold broadcastInDim
  refine Host.reduce_andi_one _ _ _ _ _ rfl fun i => ?_
  have e : i = ix3 (i 0) (i 1) 0 := funext fun a => by
    match a with
    | ⟨0, _⟩ => rfl
    | ⟨1, _⟩ => rfl
    | ⟨2, _⟩ => exact Subsingleton.elim (α := Fin 1) _ _
  have hw := (congrArg ix e).trans (h (i 0) (i 1))
  show IntOp.andi (IntOp.cmpi .sge (ix i) 0#32) (IntOp.cmpi .sle (ix i) 65535#32) = 1#1
  rw [hw]
  exact in_range _ (hf (i 0) (i 1))

/-- Where an update lands. -/
theorem lands (ix : IVec S32768x1 32) (b b' : Fin 32) (c c' : Fin 8) (n : Fin 32768) (q : Fin 65536) (p : ℕ) (hp : p < 65536)
    (h : ix (ix2 n 0) = BitVec.ofNat 32 p) :
    scatter_S32x8x65536_S32768x1_S32x8x32768_01_2_2_1.resultIdx? (ix3 b c n) ix = some (ix3 b' c' q) ↔ b = b' ∧ c = c' ∧ p = q.val := by
  have e0 : scatter_S32x8x65536_S32768x1_S32x8x32768_01_2_2_1.start (ix3 b c n) ix 0
      + (scatter_S32x8x65536_S32768x1_S32x8x32768_01_2_2_1.window (ix3 b c n) 0 : Int) = b.val := by
    show (0 : Int) + ((b.val : ℕ) : Int) = _
    omega
  have e1 : scatter_S32x8x65536_S32768x1_S32x8x32768_01_2_2_1.start (ix3 b c n) ix 1
      + (scatter_S32x8x65536_S32768x1_S32x8x32768_01_2_2_1.window (ix3 b c n) 1 : Int) = c.val := by
    show (0 : Int) + ((c.val : ℕ) : Int) = _
    omega
  have e2 : scatter_S32x8x65536_S32768x1_S32x8x32768_01_2_2_1.start (ix3 b c n) ix 2
      + (scatter_S32x8x65536_S32768x1_S32x8x32768_01_2_2_1.window (ix3 b c n) 2 : Int) = p := by
    show (ix _).toInt + ((0 : ℕ) : Int) = _
    rw [show ix _ = BitVec.ofNat 32 p from (congrArg ix (funext fun e => Fin.ext (by
      match e with
      | ⟨0, _⟩ => rfl
      | ⟨1, _⟩ => rfl))).trans h, toInt_word p hp]
    omega
  rw [resultIdx?_eq_some]
  constructor
  · intro g
    have g0 := e0.symm.trans (g 0)
    have g1 := e1.symm.trans (g 1)
    have g2 := e2.symm.trans (g 2)
    exact ⟨Fin.ext (Int.ofNat.inj g0), Fin.ext (Int.ofNat.inj g1), Int.ofNat.inj g2⟩
  · rintro ⟨rfl, rfl, hq⟩ a
    match a with
    | ⟨0, _⟩ => exact e0
    | ⟨1, _⟩ => exact e1
    | ⟨2, _⟩ => exact e2.trans (congrArg Int.ofNat hq)

theorem ix3_eta (k : S32x8x32768.Idx) : k = ix3 (k 0) (k 1) (k 2) := funext fun a => by
  match a with
  | ⟨0, _⟩ => rfl
  | ⟨1, _⟩ => rfl
  | ⟨2, _⟩ => rfl

/-- A write at distinct sites, read at one of them … -/
theorem put_hit (th : Flat) (ix : IVec S32768x1 32) (upd : Half) (f : ℕ → ℕ) (hf : ∀ n : Fin 32768, f n < 65536)
    (h : ∀ n : Fin 32768, ix (ix2 n 0) = BitVec.ofNat 32 (f n)) (hi : ∀ n n' : Fin 32768, f n = f n' → n = n')
    (b : Fin 32) (c : Fin 8) (n : Fin 32768) (q : Fin 65536) (hq : f n = q.val) :
    Host.scatter scatter_S32x8x65536_S32768x1_S32x8x32768_01_2_2_1 (fun _ v => v) th ix upd (ix3 b c q) = upd (ix3 b c n) := by
  refine scatter_set_hit _ _ _ _ _ _ (fun k hk => ?_) (ix3 b c n) ((lands ix b b c c n q _ (hf n) (h n)).2 ⟨rfl, rfl, hq⟩)
  rw [ix3_eta k] at hk ⊢
  obtain ⟨e0, e1, e2⟩ := (lands ix (k 0) b (k 1) c (k 2) q _ (hf _) (h _)).1 hk
  rw [e0, e1, hi _ _ (e2.trans hq.symm)]
  rfl

/-- … and read anywhere else. -/
theorem put_miss (th : Flat) (ix : IVec S32768x1 32) (upd : Half) (f : ℕ → ℕ) (hf : ∀ n : Fin 32768, f n < 65536)
    (h : ∀ n : Fin 32768, ix (ix2 n 0) = BitVec.ofNat 32 (f n)) (b : Fin 32) (c : Fin 8) (q : Fin 65536) (hq : ∀ n : Fin 32768, f n ≠ q.val) :
    Host.scatter scatter_S32x8x65536_S32768x1_S32x8x32768_01_2_2_1 (fun _ v => v) th ix upd (ix3 b c q) = th (ix3 b c q) := by
  refine scatter_set_miss _ _ _ _ _ fun k hk => ?_
  rw [ix3_eta k] at hk
  exact hq _ ((lands ix (k 0) b (k 1) c (k 2) q _ (hf _) (h _)).1 hk).2.2

end Cert.Swap
end
-- ==== Proof.RefStep.lean ====
module
public import proofs.«01_k».proof.Proof.RefTake
public import proofs.«01_k».proof.Proof.Spec
@[expose] public section
/-! One colour's update in the reference is one `step`: every site of the colour is read, tried and written back. -/

noncomputable section
namespace Cert.Swap

open Idealize.ShloMosaic Idealize.ShloMosaic.ValueIdx Idealize.ShloMosaic.Routing Cert.ReferenceIdeal Cert.ReferenceIdeal.Gen

/-- One number at every site of a colour. -/
def fill (w : BitVec 32) : Half := broadcastInDim S32x8x32768 ![] bcast_S_S32x8x32768 (constant (F := Ideal) S_ .f32 w)

/-- The energy at every site of a colour of the angles `a` against four neighbours. -/
def siteEnergy (a : Half) (q : Half4) : Half :=
  mulf (fill 0xBF800000#32) (Host.reduceAdd (F := Ideal) (φ := .f32) (Host.cos (subf (broadcastInDim S32x8x32768x4 ![0, 1, 2, 3] bcast_S32x8x32768x1_S32x8x32768x4_0_1_2_3 (broadcastInDim S32x8x32768x1 ![0, 1, 2] bcast_S32x8x32768_S32x8x32768x1_0_1_2 a)) q)) (constant (F := Ideal) S_ .f32 0x00000000#32) reducesTo_S32x8x32768x4_S32x8x32768_d3 h_S_)

/-- One temperature per picture, at every site of a colour. -/
def warm (T : Vec Ideal S32 .f32) : Half :=
  broadcastInDim S32x8x32768 ![0, 1, 2] bcast_S32x1x1_S32x8x32768_0_1_2 (broadcastInDim S32x1x1 ![0] bcast_S32_S32x1x1_0 T)

/-- One colour's update as the reference writes it. -/
def refStep (w1 : IVec S32768 32) (w4 : IVec S32768x4 32) (th : Flat) (p r : Half) (T : Vec Ideal S32 .f32) : Flat :=
  Host.scatter scatter_S32x8x65536_S32768x1_S32x8x32768_01_2_2_1 (fun _ b => b) th (oneIdx w1)
    (select (cmpf .olt r (Host.exp (minimumf (F := Ideal) (φ := .f32) (Host.divf (Host.negf (subf (siteEnergy p (takeFour th (fourIdx w4)))
        (siteEnergy (takeOne th (oneIdx w1)) (takeFour th (fourIdx w4))))) (warm T)) (fill 0x41F00000#32)))) p (takeOne th (oneIdx w1)))

variable (V0 : Valuation τ sig (Elt Ideal))

set_option maxRecDepth 8192 in
theorem black_eq : Value.res_main_v111 V0
    = refStep (siteW 0#32) (nbW 0#32) (Value.res_main_v2 V0) (Value.res_main_v80 V0) (V0 (Proc.devRef .tc main_arg3)) (V0 (Proc.devRef .tc main_arg1)) := rfl

set_option maxRecDepth 8192 in
theorem white_eq : Value.res_main_v147 V0
    = shapeCast _ (refStep (siteW 1#32) (nbW 1#32) (Value.res_main_v111 V0) (Value.res_main_v115 V0) (V0 (Proc.devRef .tc main_arg5)) (V0 (Proc.devRef .tc main_arg1)))
        shapeCasts_S32x8x65536_S32x8x256x256 := rfl

theorem fill_at (w : BitVec 32) (i : S32x8x32768.Idx) : fill w i = Ideal.ofBits .f32 w := bc0 _ _ _

theorem warm_at (T : Vec Ideal S32 .f32) (b : Fin 32) (c : Fin 8) (n : Fin 32768) : warm T (ix3 b c n) = T (ix1 b) := by
  refine (broadcastInDim_apply _ _ _ _ (ix3 b 0 0) fun a => ?_).trans (broadcastInDim_apply _ _ _ _ (ix1 b) fun a => ?_)
  · match a with
    | ⟨0, _⟩ => rfl
    | ⟨1, _⟩ => rfl
    | ⟨2, _⟩ => rfl
  · match a with
    | ⟨0, _⟩ => rfl

theorem spread_at (x : Half) (b : Fin 32) (c : Fin 8) (n : Fin 32768) (k : Fin 4) :
    broadcastInDim S32x8x32768x4 ![0, 1, 2, 3] bcast_S32x8x32768x1_S32x8x32768x4_0_1_2_3
      (broadcastInDim S32x8x32768x1 ![0, 1, 2] bcast_S32x8x32768_S32x8x32768x1_0_1_2 x) (ix4 b c n k) = x (ix3 b c n) := by
  refine (broadcastInDim_apply _ _ _ _ (ix4 b c n 0) fun a => ?_).trans (broadcastInDim_apply _ _ _ _ (ix3 b c n) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem neg_one_word : Ideal.ofBits .f32 0xBF800000#32 = -1 := IdealRules.sign_bit.ideal_negOnePat .f32

theorem zero_word : Ideal.ofBits .f32 0x00000000#32 = 0 := by simp [Ideal.ofBits, Ideal.ieee]

theorem fourth : S32x8x32768x4.Reduces [3] S32x8x32768 := by decide

theorem siteEnergy_at (x : Half) (q : Half4) (b : Fin 32) (c : Fin 8) (n : Fin 32768) :
    siteEnergy x q (ix3 b c n) = -(Ideal.cos (x (ix3 b c n) - q (ix4 b c n 0)) + Ideal.cos (x (ix3 b c n) - q (ix4 b c n 1))
      + Ideal.cos (x (ix3 b c n) - q (ix4 b c n 2)) + Ideal.cos (x (ix3 b c n) - q (ix4 b c n 3))) := by
  have hl : ∀ k : Fin 4, fourth.lift (ix3 b c n) k = ix4 b c n k := fun k => funext fun a => by
    match a with
    | ⟨0, _⟩ => rfl
    | ⟨1, _⟩ => rfl
    | ⟨2, _⟩ => rfl
    | ⟨3, _⟩ => rfl
  show fill 0xBF800000#32 (ix3 b c n) * Ideal.hostReduceAdd reducesTo_S32x8x32768x4_S32x8x32768_d3 _ (Ideal.ofBits .f32 0x00000000#32) (ix3 b c n) = _
  rw [fill_at, neg_one_word, zero_word, Ideal.hostReduceAdd_single _ fourth, zero_add, neg_mul, one_mul]
  refine congrArg Neg.neg ((Fin.sum_univ_four _).trans ?_)
  rw [hl, hl, hl, hl]
  show Ideal.cos (_ - _) + Ideal.cos (_ - _) + Ideal.cos (_ - _) + Ideal.cos (_ - _) = _
  rw [spread_at, spread_at, spread_at, spread_at]

/-- A table of pictures holds one lattice for each picture. -/
def HoldsFlat (th : Flat) (b : Fin 32) (c : Fin 8) (X : Lat) : Prop :=
  ∀ (i j : ℕ) (hi : i < 256) (hj : j < 256), th (ix3 b c ⟨i * 256 + j, by omega⟩) = X i j

/-- A table of one colour's entries holds one half lattice for each picture. -/
def HoldsHalf (p : Half) (b : Fin 32) (c : Fin 8) (P : Lat) : Prop :=
  ∀ n : Fin 32768, p (ix3 b c n) = P (n.val / 128) (n.val % 128)

/-- One colour's update in the reference is one `step`. -/
theorem refStep_holds (par : ℕ) (hp : par < 2) (th : Flat) (p r : Half) (T : Vec Ideal S32 .f32) (b : Fin 32) (c : Fin 8) (X P R : Lat)
    (hX : HoldsFlat th b c X) (hP : HoldsHalf p b c P) (hR : HoldsHalf r b c R) :
    HoldsFlat (refStep (siteW (BitVec.ofNat 32 par)) (nbW (BitVec.ofNat 32 par)) th p r T) b c (step par X P R (T (ix1 b))) := by
  intro i j hi hj
  have hf : ∀ n : Fin 32768, row n * 256 + colm par n < 65536 := fun n => by
    have := row_lt n; have := colm_lt par n; omega
  have hs : ∀ n : Fin 32768, oneIdx (siteW (BitVec.ofNat 32 par)) (ix2 n 0) = BitVec.ofNat 32 (row n * 256 + colm par n) :=
    fun n => oneIdx_at _ n _ (hf n) (siteW_at par hp n)
  have hf4 : ∀ (n : Fin 32768) (k : Fin 4), nbRow n k * 256 + nbCol par n k < 65536 := fun n k => by
    have := nbRow_lt n k; have := nbCol_lt par n k; omega
  have hs4 : ∀ (n : Fin 32768) (k : Fin 4), fourIdx (nbW (BitVec.ofNat 32 par)) (ix3 n k 0) = BitVec.ofNat 32 (nbRow n k * 256 + nbCol par n k) :=
    fun n k => fourIdx_at _ n k _ (hf4 n k) (nbW_at par hp n k)
  have one : ∀ n : Fin 32768, takeOne th (oneIdx (siteW (BitVec.ofNat 32 par))) (ix3 b c n) = X (row n) (colm par n) := fun n =>
    (takeOne_at th _ (fun n => row n * 256 + colm par n) hf hs b c n).trans (hX _ _ (row_lt n) (colm_lt par n))
  have four : ∀ (n : Fin 32768) (k : Fin 4), takeFour th (fourIdx (nbW (BitVec.ofNat 32 par))) (ix4 b c n k) = X (nbRow n k) (nbCol par n k) := fun n k =>
    (takeFour_at th _ (fun n k => nbRow n k * 256 + nbCol par n k) hf4 hs4 b c n k).trans (hX _ _ (nbRow_lt n k) (nbCol_lt par n k))
  have en : ∀ (x : Half) (n : Fin 32768), siteEnergy x (takeFour th (fourIdx (nbW (BitVec.ofNat 32 par)))) (ix3 b c n)
      = -nb X (row n) (colm par n) (x (ix3 b c n)) := fun x n => by
    rw [siteEnergy_at, four, four, four, four]; rfl
  by_cases hc : (i + j) % 2 = par
  · have hn : i * 128 + j / 2 < 32768 := by omega
    have hrow : row (i * 128 + j / 2) = i := by unfold row; omega
    have hmod : (i * 128 + j / 2) % 128 = j / 2 := by omega
    have hdiv : (i * 128 + j / 2) / 128 = i := by omega
    have hcol : colm par (i * 128 + j / 2) = j := by unfold colm; rw [hmod, hdiv]; omega
    unfold refStep
    rw [put_hit th _ _ (fun n => row n * 256 + colm par n) hf hs (fun n n' e => Fin.ext (by
      have := row_lt n; have := row_lt n'; have := colm_lt par n; have := colm_lt par n'
      have e : row n * 256 + colm par n = row n' * 256 + colm par n' := e
      have e1 : row n = row n' := by omega
      have e2 : colm par n = colm par n' := by omega
      unfold row at e1; unfold colm at e2; omega)) b c ⟨i * 128 + j / 2, hn⟩ ⟨i * 256 + j, by omega⟩
      (by show row (i * 128 + j / 2) * 256 + colm par (i * 128 + j / 2) = _; rw [hrow, hcol])]
    rw [WordCmp.select_at]
    show Scalar.select (Scalar.cmpf (F := Ideal) (φ := .f32) .olt (r (ix3 b c _)) (Ideal.exp (min (Ideal.div (-(siteEnergy p _ (ix3 b c _) - siteEnergy _ _ (ix3 b c _)))
      (warm T (ix3 b c _))) (fill 0x41F00000#32 (ix3 b c _))))) (p (ix3 b c _)) _ = _
    rw [en, en, warm_at, fill_at, one, hP, hR]
    show Scalar.select _ _ (X (row (i * 128 + j / 2)) (colm par (i * 128 + j / 2))) = _
    simp only [hrow, hcol, hmod, hdiv]
    unfold step
    rw [if_pos hc]
    rfl
  · unfold refStep
    rw [put_miss th _ _ (fun n => row n * 256 + colm par n) hf hs b c ⟨i * 256 + j, by omega⟩ (fun n e => hc (by
      have := row_lt n; have := colm_lt par n
      have e : row n * 256 + colm par n = i * 256 + j := e
      have e1 : row n = i := by omega
      have e2 : colm par n = j := by omega
      unfold row at e1; unfold colm at e2; omega))]
    rw [hX i j hi hj]
    unfold step
    rw [if_neg hc]

end Cert.Swap
end
-- ==== Proof.RefValue.lean ====
module
public import proofs.«01_k».proof.Proof.RefStep
public import proofs.«01_k».proof.Proof.Sweep
@[expose] public section
/-! What the reference leaves: the lattices after the sweep, their energies, and the exchanged pictures and energies. -/

noncomputable section
namespace Cert.Swap

open Idealize.ShloMosaic Idealize.ShloMosaic.ValueIdx Idealize.ShloMosaic.Routing Cert.ReferenceIdeal Cert.ReferenceIdeal.Gen

variable (V0 : Valuation τ sig (Elt Ideal))

/-- The seven arguments. -/
abbrev arg0 : Pics := V0 (Proc.devRef .tc main_arg0)
abbrev arg1 : Temps := V0 (Proc.devRef .tc main_arg1)
abbrev arg2 : Halves := V0 (Proc.devRef .tc main_arg2)
abbrev arg3 : Halves := V0 (Proc.devRef .tc main_arg3)
abbrev arg4 : Halves := V0 (Proc.devRef .tc main_arg4)
abbrev arg5 : Halves := V0 (Proc.devRef .tc main_arg5)
abbrev arg6 : Draws := V0 (Proc.devRef .tc main_arg6)

/-- Picture (b, c) after the sweep. -/
abbrev lat (b : Fin 32) (c : Fin 8) : Lat := sweepOf (arg0 V0) (arg1 V0) (arg2 V0) (arg3 V0) (arg4 V0) (arg5 V0) b c

theorem pic_holds (b : Fin 32) (c : Fin 8) : HoldsFlat (Value.res_main_v2 V0) b c (pic (arg0 V0) b c) := fun i j hi hj => by
  rw [show Value.res_main_v2 V0 = (shapeCast S32x8x65536 (mulf (F := Ideal) (φ := .f32) (arg0 V0) (broadcastInDim S32x8x256x256 ![] bcast_S_S32x8x256x256 (constant (F := Ideal) S_ .f32 0x40C90FDB#32))) shapeCasts_S32x8x256x256_S32x8x65536 : Flat) from rfl]
  refine (shapeCast_apply _ _ _ (ix4 b c ⟨i, hi⟩ ⟨j, hj⟩) ?_).trans ?_
  · rw [Shape.rowMajor_val_three, Shape.rowMajor_val_four]
    show ((b.val * 8 + c.val) * 256 + i) * 256 + j = (b.val * 8 + c.val) * 65536 + (i * 256 + j)
    omega
  · show _ * broadcastInDim S32x8x256x256 ![] bcast_S_S32x8x256x256 (constant (F := Ideal) S_ .f32 0x40C90FDB#32) _ = arg0 V0 (ix4 b c (Fin.ofNat 256 i) (Fin.ofNat 256 j)) * turn
    rw [bc0, show Fin.ofNat 256 i = ⟨i, hi⟩ from ofNat_self ⟨i, hi⟩, show Fin.ofNat 256 j = ⟨j, hj⟩ from ofNat_self ⟨j, hj⟩]
    rfl

theorem half_holds (a : Halves) (b : Fin 32) (c : Fin 8) : HoldsHalf a b c (half a b c) := fun n => by
  show a _ = a _
  exact congrArg (fun k => a (ix3 b c k)) (Fin.ext (show n.val = (n.val / 128 * 128 + n.val % 128) % 32768 by omega))

theorem turned_holds (a : Halves) (b : Fin 32) (c : Fin 8) :
    HoldsHalf (mulf (F := Ideal) (φ := .f32) a (fill 0x40C90FDB#32)) b c (halfTurned a b c) := fun n => by
  show a _ * fill _ _ = half a b c _ _ * turn
  rw [fill_at, ← half_holds a b c n]
  rfl

/-- All pictures after the sweep, as the reference computes them. -/
abbrev pics : Pics := Value.res_main_v147 V0

/-- The reference's lattices after the sweep. -/
theorem lat_at (b : Fin 32) (c : Fin 8) (i j : Fin 256) : pics V0 (ix4 b c i j) = lat V0 b c i j := by
  unfold pics; rw [white_eq]
  refine (shapeCast_apply _ _ _ (ix3 b c ⟨i.val * 256 + j.val, by omega⟩) ?_).trans ?_
  · rw [Shape.rowMajor_val_three, Shape.rowMajor_val_four]
    show (b.val * 8 + c.val) * 65536 + (i.val * 256 + j.val) = ((b.val * 8 + c.val) * 256 + i.val) * 256 + j.val
    omega
  · refine refStep_holds 1 (by omega) _ _ _ _ b c _ _ _ ?_ (turned_holds (arg4 V0) b c) (half_holds (arg5 V0) b c) i j i.isLt j.isLt
    rw [black_eq]
    exact refStep_holds 0 (by omega) _ _ _ _ b c _ _ _ (pic_holds V0 b c) (turned_holds (arg2 V0) b c) (half_holds (arg3 V0) b c)

/-- The pictures moved up by one row, and to the left by one column, cyclically. -/
def below (x : Pics) : Pics :=
  concatenate S32x8x256x256 2 [⟨S32x8x255x256, (extractStridedSlice S32x8x255x256 ![0, 0, 1, 0] x slices_S32x8x256x256_S32x8x255x256_0_0_1_0)⟩, ⟨S32x8x1x256, (extractStridedSlice S32x8x1x256 ![0, 0, 0, 0] x slices_S32x8x256x256_S32x8x1x256_0_0_0_0)⟩] concatenates_S32x8x255x256_S32x8x1x256_S32x8x256x256_d2
def right (x : Pics) : Pics :=
  concatenate S32x8x256x256 3 [⟨S32x8x256x255, (extractStridedSlice S32x8x256x255 ![0, 0, 0, 1] x slices_S32x8x256x256_S32x8x256x255_0_0_0_1)⟩, ⟨S32x8x256x1, (extractStridedSlice S32x8x256x1 ![0, 0, 0, 0] x slices_S32x8x256x256_S32x8x256x1_0_0_0_0)⟩] concatenates_S32x8x256x255_S32x8x256x1_S32x8x256x256_d3

/-- The row below, cyclically. -/
theorem below_at (x : S32x8x256x256.Idx → EReal) (b : Fin 32) (c : Fin 8) (i j : Fin 256) :
    below x (ix4 b c i j) = x (ix4 b c ⟨(i.val + 1) % 256, by omega⟩ j) := by
  unfold below
  by_cases hi : i.val < 255
  · refine (concatenate_pair_apply_left (t := S32x8x256x256) (s₁ := S32x8x255x256) (s₂ := S32x8x1x256) 2 _ _ _ (ix4 b c i j) rfl (ix4 b c (⟨i.val, hi⟩ : Fin 255) j) fun a => ?_).trans ?_
    · match a with
      | ⟨0, _⟩ => rfl
      | ⟨1, _⟩ => rfl
      | ⟨2, _⟩ => rfl
      | ⟨3, _⟩ => rfl
    · refine congrArg x (funext fun a => Fin.ext ?_)
      match a with
      | ⟨0, _⟩ => exact Nat.zero_add _
      | ⟨1, _⟩ => exact Nat.zero_add _
      | ⟨2, _⟩ => exact (show 1 + i.val = (i.val + 1) % 256 by omega)
      | ⟨3, _⟩ => exact Nat.zero_add _
  · refine (concatenate_pair_apply_right (t := S32x8x256x256) (s₁ := S32x8x255x256) (s₂ := S32x8x1x256) 2 _ _ _ (ix4 b c i j) rfl rfl (ix4 b c (0 : Fin 1) j) (fun a ha => ?_) ?_).trans ?_
    · match a with
      | ⟨0, _⟩ => rfl
      | ⟨1, _⟩ => rfl
      | ⟨2, _⟩ => exact absurd rfl ha
      | ⟨3, _⟩ => rfl
    · exact (show 0 + 255 = i.val by omega)
    · refine congrArg x (funext fun a => Fin.ext ?_)
      match a with
      | ⟨0, _⟩ => exact Nat.zero_add _
      | ⟨1, _⟩ => exact Nat.zero_add _
      | ⟨2, _⟩ => exact (show 0 + 0 = (i.val + 1) % 256 by omega)
      | ⟨3, _⟩ => exact Nat.zero_add _

/-- The column on the right, cyclically. -/
theorem right_at (x : S32x8x256x256.Idx → EReal) (b : Fin 32) (c : Fin 8) (i j : Fin 256) :
    right x (ix4 b c i j) = x (ix4 b c i ⟨(j.val + 1) % 256, by omega⟩) := by
  unfold right
  by_cases hj : j.val < 255
  · refine (concatenate_pair_apply_left (t := S32x8x256x256) (s₁ := S32x8x256x255) (s₂ := S32x8x256x1) 3 _ _ _ (ix4 b c i j) rfl (ix4 b c i (⟨j.val, hj⟩ : Fin 255)) fun a => ?_).trans ?_
    · match a with
      | ⟨0, _⟩ => rfl
      | ⟨1, _⟩ => rfl
      | ⟨2, _⟩ => rfl
      | ⟨3, _⟩ => rfl
    · refine congrArg x (funext fun a => Fin.ext ?_)
      match a with
      | ⟨0, _⟩ => exact Nat.zero_add _
      | ⟨1, _⟩ => exact Nat.zero_add _
      | ⟨2, _⟩ => exact Nat.zero_add _
      | ⟨3, _⟩ => exact (show 1 + j.val = (j.val + 1) % 256 by omega)
  · refine (concatenate_pair_apply_right (t := S32x8x256x256) (s₁ := S32x8x256x255) (s₂ := S32x8x256x1) 3 _ _ _ (ix4 b c i j) rfl rfl (ix4 b c i (0 : Fin 1)) (fun a ha => ?_) ?_).trans ?_
    · match a with
      | ⟨0, _⟩ => rfl
      | ⟨1, _⟩ => rfl
      | ⟨2, _⟩ => rfl
      | ⟨3, _⟩ => exact absurd rfl ha
    · exact (show 0 + 255 = j.val by omega)
    · refine congrArg x (funext fun a => Fin.ext ?_)
      match a with
      | ⟨0, _⟩ => exact Nat.zero_add _
      | ⟨1, _⟩ => exact Nat.zero_add _
      | ⟨2, _⟩ => exact Nat.zero_add _
      | ⟨3, _⟩ => exact (show 0 + 0 = (j.val + 1) % 256 by omega)

/-- A sum over the two last axes. -/
theorem plane_sum (x : S32x8x256x256.Idx → EReal) (init : EReal) (b : Fin 32) (c : Fin 8) :
    Ideal.hostReduceAdd reducesTo_S32x8x256x256_S32x8_d2_3 x init (ix2 b c) = init + ∑ i : Fin 256, ∑ j : Fin 256, x (ix4 b c i j) := by
  unfold Ideal.hostReduceAdd
  rw [← Fintype.sum_prod_type' (f := fun i j : Fin 256 => x (ix4 b c i j))]
  refine congrArg (init + ·) (Finset.sum_nbij' (fun i => (i 2, i 3)) (fun p => ix4 b c p.1 p.2) (fun _ _ => Finset.mem_univ _) (fun p _ => ?_)
    (fun i hi => ?_) (fun _ _ => rfl) (fun i hi => ?_))
  · refine Finset.mem_filter.2 ⟨Finset.mem_univ _, funext fun a => Fin.ext ?_⟩
    match a with
    | ⟨0, _⟩ => rfl
    | ⟨1, _⟩ => rfl
  all_goals
    have h := (Finset.mem_filter.1 hi).2
    have e : ix4 b c (i 2) (i 3) = i := funext fun a => Fin.ext (by
      match a with
      | ⟨0, _⟩ => exact (congrArg Fin.val (congrFun h 0)).symm
      | ⟨1, _⟩ => exact (congrArg Fin.val (congrFun h 1)).symm
      | ⟨2, _⟩ => rfl
      | ⟨3, _⟩ => rfl)
  · exact e
  · exact congrArg x e.symm

/-- The energies of all pictures, as the reference writes them. -/
def energies (x : Pics) : Ens :=
  mulf (F := Ideal) (φ := .f32) (broadcastInDim S32x8 ![] bcast_S_S32x8 (constant (F := Ideal) S_ .f32 0xBF800000#32))
    (Host.reduceAdd (F := Ideal) (φ := .f32) (addf (F := Ideal) (φ := .f32) (Host.cos (F := Ideal) (φ := .f32) (subf (F := Ideal) (φ := .f32) x (below x)))
      (Host.cos (F := Ideal) (φ := .f32) (subf (F := Ideal) (φ := .f32) x (right x))))
      (constant (F := Ideal) S_ .f32 0x00000000#32) reducesTo_S32x8x256x256_S32x8_d2_3 h_S_)

theorem energies_at (x : Pics) (b : Fin 32) (c : Fin 8) (X : Lat) (h : ∀ i j : Fin 256, x (ix4 b c i j) = X i j) :
    energies x (ix2 b c) = energy X := by
  have hs : ∀ i j : Fin 256, addf (F := Ideal) (φ := .f32) (Host.cos (F := Ideal) (φ := .f32) (subf (F := Ideal) (φ := .f32) x (below x)))
      (Host.cos (F := Ideal) (φ := .f32) (subf (F := Ideal) (φ := .f32) x (right x))) (ix4 b c i j)
      = Ideal.cos (X i j - X ((i + 1) % 256) j) + Ideal.cos (X i j - X i ((j + 1) % 256)) := fun i j => by
    show Ideal.cos (x (ix4 b c i j) - below x (ix4 b c i j)) + Ideal.cos (x (ix4 b c i j) - right x (ix4 b c i j)) = _
    rw [below_at, right_at, h, h, h]
  have hm : ∀ e : Ens, mulf (F := Ideal) (φ := .f32) (broadcastInDim S32x8 ![] bcast_S_S32x8 (constant (F := Ideal) S_ .f32 0xBF800000#32)) e (ix2 b c) = -e (ix2 b c) := fun e => by
    rw [mulf_apply, bc0]
    show Ideal.ofBits .f32 0xBF800000#32 * _ = _
    rw [neg_one_word, neg_mul, one_mul]
  unfold energies energy
  rw [hm, hostReduceAdd_apply, plane_sum, Finset.sum_range]
  refine congrArg Neg.neg (((congrArg (· + _) zero_word).trans (zero_add _)).trans (Finset.sum_congr rfl fun i _ => ?_))
  rw [Finset.sum_range]
  exact Finset.sum_congr rfl fun j _ => hs i j

theorem energies_eq : Value.res_main_v157 V0 = energies (pics V0) := rfl

/-- The reference's energies. -/
theorem energy_at (b : Fin 32) (c : Fin 8) : Value.res_main_v157 V0 (ix2 b c) = energy (lat V0 b c) :=
  (congrFun (energies_eq V0) _).trans (energies_at _ b c _ (lat_at V0 b c))

theorem inverse_at (b : Fin 32) : Value.res_main_v159 V0 (ix1 b) = Ideal.div 1 (arg1 V0 (ix1 b)) := by
  show Ideal.div (broadcastInDim S32 ![] bcast_S_S32 (constant (F := Ideal) S_ .f32 0x3F800000#32) (ix1 b)) (arg1 V0 (ix1 b)) = _
  rw [bc0]
  exact congrArg (Ideal.div · _) Ideal.ofBits_one_f32

/-- One temperature of every pair: the even ones, or the odd ones. -/
theorem pick_inverse (x : S32.Idx → EReal) (p : Fin 16) :
    Host.slice S16 ![0] ![2] x slicesBy_S32_S16_0s2 (ix1 p) = x (ix1 (bat p 0)) ∧ Host.slice S16 ![1] ![2] x slicesBy_S32_S16_1s2 (ix1 p) = x (ix1 (bat p 1)) := by
  constructor <;> refine congrArg x (funext fun a => Fin.ext ?_)
  · match a with
    | ⟨0, _⟩ => exact (show 0 + 2 * p.val = 2 * p.val + 0 by omega)
  · match a with
    | ⟨0, _⟩ => exact (show 1 + 2 * p.val = 2 * p.val + 1 by omega)

theorem pick_energy (x : S32x8.Idx → EReal) (p : Fin 16) (c : Fin 8) :
    Host.slice S16x8 ![0, 0] ![2, 1] x slicesBy_S32x8_S16x8_0s2_0s1 (ix2 p c) = x (ix2 (bat p 0) c)
      ∧ Host.slice S16x8 ![1, 0] ![2, 1] x slicesBy_S32x8_S16x8_1s2_0s1 (ix2 p c) = x (ix2 (bat p 1) c) := by
  constructor <;> refine congrArg x (funext fun a => Fin.ext ?_)
  · match a with
    | ⟨0, _⟩ => exact (show 0 + 2 * p.val = 2 * p.val + 0 by omega)
    | ⟨1, _⟩ => exact (show 0 + 1 * c.val = c.val by omega)
  · match a with
    | ⟨0, _⟩ => exact (show 1 + 2 * p.val = 2 * p.val + 1 by omega)
    | ⟨1, _⟩ => exact (show 0 + 1 * c.val = c.val by omega)

theorem pick_pic (x : Pics) (p : Fin 16) (c : Fin 8) (i j : Fin 256) :
    Host.slice S16x8x256x256 ![0, 0, 0, 0] ![2, 1, 1, 1] x slicesBy_S32x8x256x256_S16x8x256x256_0s2_0s1_0s1_0s1 (ix4 p c i j) = x (ix4 (bat p 0) c i j)
      ∧ Host.slice S16x8x256x256 ![1, 0, 0, 0] ![2, 1, 1, 1] x slicesBy_S32x8x256x256_S16x8x256x256_1s2_0s1_0s1_0s1 (ix4 p c i j) = x (ix4 (bat p 1) c i j) := by
  constructor <;> refine congrArg x (funext fun a => Fin.ext ?_)
  · match a with
    | ⟨0, _⟩ => exact (show 0 + 2 * p.val = 2 * p.val + 0 by omega)
    | ⟨1, _⟩ => exact (show 0 + 1 * c.val = c.val by omega)
    | ⟨2, _⟩ => exact (show 0 + 1 * i.val = i.val by omega)
    | ⟨3, _⟩ => exact (show 0 + 1 * j.val = j.val by omega)
  · match a with
    | ⟨0, _⟩ => exact (show 1 + 2 * p.val = 2 * p.val + 1 by omega)
    | ⟨1, _⟩ => exact (show 0 + 1 * c.val = c.val by omega)
    | ⟨2, _⟩ => exact (show 0 + 1 * i.val = i.val by omega)
    | ⟨3, _⟩ => exact (show 0 + 1 * j.val = j.val by omega)

/-- Whether a pair exchanges, in terms of the arguments. -/
abbrev turnsOver (p : Fin 16) (c : Fin 8) : BitVec 1 :=
  exchanged (arg0 V0) (arg1 V0) (arg2 V0) (arg3 V0) (arg4 V0) (arg5 V0) (arg6 V0) p c

/-- The reference's energies and inverse temperatures as tables of extended reals. -/
abbrev ens : Ens := Value.res_main_v157 V0
abbrev invs : Temps := Value.res_main_v159 V0

/-- The reference's exchange bits. -/
theorem exchange_at (p : Fin 16) (c : Fin 8) : Value.res_main_v172 V0 (ix2 p c) = turnsOver V0 p c := by
  have hs : ∀ x : S16.Idx → EReal, broadcastInDim S16x8 ![0, 1] bcast_S16x1_S16x8_0_1 (broadcastInDim S16x1 ![0] bcast_S16_S16x1_0 x) (ix2 p c) = x (ix1 p) := fun x => by
    refine (broadcastInDim_apply _ _ _ _ (ix2 p 0) fun a => ?_).trans (broadcastInDim_apply _ _ _ _ (ix1 p) fun a => ?_)
    · match a with
      | ⟨0, _⟩ => rfl
      | ⟨1, _⟩ => rfl
    · match a with
      | ⟨0, _⟩ => rfl
  show Scalar.cmpf (F := Ideal) (φ := .f32) .olt (arg6 V0 (ix2 p c)) (Ideal.exp (min
    (broadcastInDim S16x8 ![0, 1] bcast_S16x1_S16x8_0_1 (broadcastInDim S16x1 ![0] bcast_S16_S16x1_0
        (fun k => Host.slice S16 ![0] ![2] (invs V0) slicesBy_S32_S16_0s2 k - Host.slice S16 ![1] ![2] (invs V0) slicesBy_S32_S16_1s2 k)) (ix2 p c)
      * (Host.slice S16x8 ![0, 0] ![2, 1] (ens V0) slicesBy_S32x8_S16x8_0s2_0s1 (ix2 p c) - Host.slice S16x8 ![1, 0] ![2, 1] (ens V0) slicesBy_S32x8_S16x8_1s2_0s1 (ix2 p c)))
    (broadcastInDim S16x8 ![] bcast_S_S16x8 (constant (F := Ideal) S_ .f32 0x41F00000#32) (ix2 p c)))) = _
  rw [hs, bc0, (pick_inverse _ p).1, (pick_inverse _ p).2, (pick_energy _ p c).1, (pick_energy _ p c).2,
    show invs V0 (ix1 (bat p 0)) = _ from inverse_at V0 _, show invs V0 (ix1 (bat p 1)) = _ from inverse_at V0 _,
    show ens V0 (ix2 (bat p 0) c) = _ from energy_at V0 _ _, show ens V0 (ix2 (bat p 1) c) = _ from energy_at V0 _ _]
  rfl

/-- Two tables of pairs stacked and laid out again as temperatures. -/
theorem stack_ens (u v : S16x8.Idx → EReal) (b : Fin 32) (c : Fin 8) :
    shapeCast S32x8 (concatenate S16x2x8 1 [⟨S16x1x8, (broadcastInDim S16x1x8 ![0, 2] bcast_S16x8_S16x1x8_0_2 u)⟩, ⟨S16x1x8, (broadcastInDim S16x1x8 ![0, 2] bcast_S16x8_S16x1x8_0_2 v)⟩] concatenates_S16x1x8_S16x1x8_S16x2x8_d1) shapeCasts_S16x2x8_S32x8 (ix2 b c)
      = ![u, v] (sideOf b) (ix2 (pairOf b) c) := by
  refine (shapeCast_apply _ _ _ (ix3 (pairOf b) (sideOf b) c) ?_).trans ?_
  · rw [Shape.rowMajor_val_three, Shape.rowMajor_val_two]
    show (b.val / 2 * 2 + b.val % 2) * 8 + c.val = b.val * 8 + c.val
    omega
  · have hb : ∀ x : S16x8.Idx → EReal, broadcastInDim S16x1x8 ![0, 2] bcast_S16x8_S16x1x8_0_2 x (ix3 (pairOf b) 0 c) = x (ix2 (pairOf b) c) := fun x =>
      broadcastInDim_apply _ _ _ _ _ fun a => by
        match a with
        | ⟨0, _⟩ => rfl
        | ⟨1, _⟩ => rfl
    generalize sideOf b = g
    match g with
    | ⟨0, _⟩ =>
      refine (concatenate_pair_apply_left (t := S16x2x8) (s₁ := S16x1x8) (s₂ := S16x1x8) 1 _ _ _ _ rfl (ix3 (pairOf b) 0 c) fun a => ?_).trans (hb u)
      match a with
      | ⟨0, _⟩ => rfl
      | ⟨1, _⟩ => rfl
      | ⟨2, _⟩ => rfl
    | ⟨1, _⟩ =>
      refine (concatenate_pair_apply_right (t := S16x2x8) (s₁ := S16x1x8) (s₂ := S16x1x8) 1 _ _ _ _ rfl rfl (ix3 (pairOf b) 0 c) (fun a ha => ?_) ?_).trans (hb v)
      · match a with
        | ⟨0, _⟩ => rfl
        | ⟨1, _⟩ => exact absurd rfl ha
        | ⟨2, _⟩ => rfl
      · rfl

theorem stack_pics (u v : S16x8x256x256.Idx → EReal) (b : Fin 32) (c : Fin 8) (i j : Fin 256) :
    shapeCast S32x8x256x256 (concatenate S16x2x8x256x256 1 [⟨S16x1x8x256x256, (broadcastInDim S16x1x8x256x256 ![0, 2, 3, 4] bcast_S16x8x256x256_S16x1x8x256x256_0_2_3_4 u)⟩, ⟨S16x1x8x256x256, (broadcastInDim S16x1x8x256x256 ![0, 2, 3, 4] bcast_S16x8x256x256_S16x1x8x256x256_0_2_3_4 v)⟩] concatenates_S16x1x8x256x256_S16x1x8x256x256_S16x2x8x256x256_d1) shapeCasts_S16x2x8x256x256_S32x8x256x256 (ix4 b c i j)
      = ![u, v] (sideOf b) (ix4 (pairOf b) c i j) := by
  refine (shapeCast_apply _ _ _ (ix5 (pairOf b) (sideOf b) c i j) ?_).trans ?_
  · rw [Shape.rowMajor_val_five, Shape.rowMajor_val_four]
    show (((b.val / 2 * 2 + b.val % 2) * 8 + c.val) * 256 + i.val) * 256 + j.val = ((b.val * 8 + c.val) * 256 + i.val) * 256 + j.val
    omega
  · have hb : ∀ x : S16x8x256x256.Idx → EReal, broadcastInDim S16x1x8x256x256 ![0, 2, 3, 4] bcast_S16x8x256x256_S16x1x8x256x256_0_2_3_4 x (ix5 (pairOf b) 0 c i j) = x (ix4 (pairOf b) c i j) := fun x =>
      broadcastInDim_apply _ _ _ _ _ fun a => by
        match a with
        | ⟨0, _⟩ => rfl
        | ⟨1, _⟩ => rfl
        | ⟨2, _⟩ => rfl
        | ⟨3, _⟩ => rfl
    generalize sideOf b = g
    match g with
    | ⟨0, _⟩ =>
      refine (concatenate_pair_apply_left (t := S16x2x8x256x256) (s₁ := S16x1x8x256x256) (s₂ := S16x1x8x256x256) 1 _ _ _ _ rfl (ix5 (pairOf b) 0 c i j) fun a => ?_).trans (hb u)
      match a with
      | ⟨0, _⟩ => rfl
      | ⟨1, _⟩ => rfl
      | ⟨2, _⟩ => rfl
      | ⟨3, _⟩ => rfl
      | ⟨4, _⟩ => rfl
    | ⟨1, _⟩ =>
      refine (concatenate_pair_apply_right (t := S16x2x8x256x256) (s₁ := S16x1x8x256x256) (s₂ := S16x1x8x256x256) 1 _ _ _ _ rfl rfl (ix5 (pairOf b) 0 c i j) (fun a ha => ?_) ?_).trans (hb v)
      · match a with
        | ⟨0, _⟩ => rfl
        | ⟨1, _⟩ => exact absurd rfl ha
        | ⟨2, _⟩ => rfl
        | ⟨3, _⟩ => rfl
        | ⟨4, _⟩ => rfl
      · rfl

/-- Two choices by the exchange bit, read by the place in the pair, are `swap`. -/
theorem swap_pair {α : Type} (c : BitVec 1) (f : Fin 2 → α) (g : Fin 2) : ![Scalar.select c (f 1) (f 0), Scalar.select c (f 0) (f 1)] g = swap c f g := by
  match g with
  | ⟨0, _⟩ => rfl
  | ⟨1, _⟩ => rfl

/-- The reference's energies after the exchange. -/
theorem ref_ens : (shapeCast S32x8 (concatenate S16x2x8 1 [⟨S16x1x8, (broadcastInDim S16x1x8 ![0, 2] bcast_S16x8_S16x1x8_0_2 (select (Value.res_main_v172 V0) (Value.res_main_v161 V0) (Value.res_main_v160 V0)))⟩, ⟨S16x1x8, (broadcastInDim S16x1x8 ![0, 2] bcast_S16x8_S16x1x8_0_2 (select (Value.res_main_v172 V0) (Value.res_main_v160 V0) (Value.res_main_v161 V0)))⟩] concatenates_S16x1x8_S16x1x8_S16x2x8_d1) shapeCasts_S16x2x8_S32x8 : Ens)
    = ensOut (arg0 V0) (arg1 V0) (arg2 V0) (arg3 V0) (arg4 V0) (arg5 V0) (arg6 V0) := funext fun i => by
  obtain ⟨b, c, rfl⟩ : ∃ (b : Fin 32) (c : Fin 8), i = ix2 b c := ⟨i 0, i 1, funext fun a => by
    match a with
    | ⟨0, _⟩ => rfl
    | ⟨1, _⟩ => rfl⟩
  refine (stack_ens _ _ b c).trans ?_
  have e0 : Value.res_main_v160 V0 (ix2 (pairOf b) c) = energy (lat V0 (bat (pairOf b) 0) c) := ((pick_energy (ens V0) _ c).1).trans (energy_at V0 _ _)
  have e1 : Value.res_main_v161 V0 (ix2 (pairOf b) c) = energy (lat V0 (bat (pairOf b) 1) c) := ((pick_energy (ens V0) _ c).2).trans (energy_at V0 _ _)
  refine Eq.trans ?_ (swap_pair (turnsOver V0 (pairOf b) c) (fun g => energy (lat V0 (bat (pairOf b) g) c)) (sideOf b))
  rw [← exchange_at, ← e0, ← e1]
  generalize sideOf b = g
  match g with
  | ⟨0, _⟩ => rfl
  | ⟨1, _⟩ => rfl

/-- The reference's pictures after the exchange. -/
theorem ref_pics : (shapeCast S32x8x256x256 (concatenate S16x2x8x256x256 1 [⟨S16x1x8x256x256, (broadcastInDim S16x1x8x256x256 ![0, 2, 3, 4] bcast_S16x8x256x256_S16x1x8x256x256_0_2_3_4 (select (broadcastInDim S16x8x256x256 ![0, 1, 2, 3] bcast_S16x8x1x1_S16x8x256x256_0_1_2_3 (Value.res_main_v175 V0)) (Value.res_main_v174 V0) (Value.res_main_v173 V0)))⟩, ⟨S16x1x8x256x256, (broadcastInDim S16x1x8x256x256 ![0, 2, 3, 4] bcast_S16x8x256x256_S16x1x8x256x256_0_2_3_4 (select (broadcastInDim S16x8x256x256 ![0, 1, 2, 3] bcast_S16x8x1x1_S16x8x256x256_0_1_2_3 (Value.res_main_v175 V0)) (Value.res_main_v173 V0) (Value.res_main_v174 V0)))⟩] concatenates_S16x1x8x256x256_S16x1x8x256x256_S16x2x8x256x256_d1) shapeCasts_S16x2x8x256x256_S32x8x256x256 : Pics)
    = picsOut (arg0 V0) (arg1 V0) (arg2 V0) (arg3 V0) (arg4 V0) (arg5 V0) (arg6 V0) := funext fun q => by
  obtain ⟨b, c, i, j, rfl⟩ : ∃ (b : Fin 32) (c : Fin 8) (i j : Fin 256), q = ix4 b c i j := ⟨q 0, q 1, q 2, q 3, funext fun a => by
    match a with
    | ⟨0, _⟩ => rfl
    | ⟨1, _⟩ => rfl
    | ⟨2, _⟩ => rfl
    | ⟨3, _⟩ => rfl⟩
  refine (stack_pics _ _ b c i j).trans ?_
  have e0 : Value.res_main_v173 V0 (ix4 (pairOf b) c i j) = lat V0 (bat (pairOf b) 0) c i j := ((pick_pic (pics V0) _ c i j).1).trans (lat_at V0 _ _ _ _)
  have e1 : Value.res_main_v174 V0 (ix4 (pairOf b) c i j) = lat V0 (bat (pairOf b) 1) c i j := ((pick_pic (pics V0) _ c i j).2).trans (lat_at V0 _ _ _ _)
  have ec : broadcastInDim S16x8x256x256 ![0, 1, 2, 3] bcast_S16x8x1x1_S16x8x256x256_0_1_2_3 (Value.res_main_v175 V0) (ix4 (pairOf b) c i j)
      = turnsOver V0 (pairOf b) c := by
    refine (broadcastInDim_apply _ _ _ _ (ix4 (pairOf b) c 0 0) fun a => ?_).trans ?_
    · match a with
      | ⟨0, _⟩ => rfl
      | ⟨1, _⟩ => rfl
      | ⟨2, _⟩ => rfl
      | ⟨3, _⟩ => rfl
    · refine Eq.trans ?_ (exchange_at V0 (pairOf b) c)
      unfold Value.res_main_v175
      refine broadcastInDim_apply _ _ _ _ (ix2 (pairOf b) c) fun a => ?_
      match a with
      | ⟨0, _⟩ => rfl
      | ⟨1, _⟩ => rfl
  refine Eq.trans ?_ (swap_pair (turnsOver V0 (pairOf b) c) (fun g => lat V0 (bat (pairOf b) g) c i j) (sideOf b))
  rw [← ec, ← e0, ← e1]
  generalize sideOf b = g
  match g with
  | ⟨0, _⟩ => rfl
  | ⟨1, _⟩ => rfl

end Cert.Swap
end
-- ==== Proof.lean ====
/- The certificate: the kernel, its idealization and the reference leave their arguments and semaphores alone, the idealization
preserves the kernel, and over the extended reals kernel and reference compute the same two results. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs to the end from any memory, leaves its arguments unchanged and every counter at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference. -/
theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The idealization changed no operation of the kernel. -/
theorem preserves : Cert.preserves_Kernel_KernelIdeal := trivial

/-- Over the extended reals kernel and reference leave the same pictures and the same energies: both leave the swept pictures
and their energies, exchanged pair by pair, as the functions `picsOut` and `ensOut` of the seven arguments. -/
theorem algebraic : Cert.algebraic_KernelIdeal_ReferenceIdeal := by
  intro m g m' g' _ same
  refine ⟨fun c => Cert.Swap.outPics m c, fun c => Cert.Swap.outEns m c, Cert.Swap.kernel_run m g, ?_⟩
  refine (θ_run Cert.ReferenceIdeal.defs _ _).mono (fun r h c => ?_) (Cert.ReferenceIdeal.Value.run (F := Ideal) m' g')
  obtain ⟨s0, s1, s2, s3, s4, s5, s6⟩ := same c
  have e0 : Cert.Swap.arg0 (StableHlo.launchContents m' c) = Cert.Swap.in0 m c := s0
  have e1 : Cert.Swap.arg1 (StableHlo.launchContents m' c) = Cert.Swap.in1 m c := s1
  have e2 : Cert.Swap.arg2 (StableHlo.launchContents m' c) = Cert.Swap.in2 m c := s2
  have e3 : Cert.Swap.arg3 (StableHlo.launchContents m' c) = Cert.Swap.in3 m c := s3
  have e4 : Cert.Swap.arg4 (StableHlo.launchContents m' c) = Cert.Swap.in4 m c := s4
  have e5 : Cert.Swap.arg5 (StableHlo.launchContents m' c) = Cert.Swap.in5 m c := s5
  have e6 : Cert.Swap.arg6 (StableHlo.launchContents m' c) = Cert.Swap.in6 m c := s6
  have hp := Cert.Swap.ref_pics (StableHlo.launchContents m' c)
  have he := Cert.Swap.ref_ens (StableHlo.launchContents m' c)
  rw [e0, e1, e2, e3, e4, e5, e6] at hp he
  exact ⟨(h c).1.trans hp, (h c).2.1.trans he, (h c).2.2⟩

/-- The whole certificate. -/
theorem claim : Cert.Claim :=
  ⟨Cert.Kernel.Gen.facts, Cert.KernelIdeal.Gen.facts, Cert.ReferenceIdeal.Gen.facts, frame_kernel, frame_ideal, frame_reference, preserves, algebraic⟩

end Cert.Proof

end
